-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S32x32x1x128x128 : Shape := ⟨5, ![32, 32, 1, 128, 128]⟩
abbrev S32x32x64x128 : Shape := ⟨4, ![32, 32, 64, 128]⟩
abbrev S_ : Shape := ⟨0, ![]⟩

class Facts : Prop where
  bcast_S_S32x32x64x128 : S_.BroadcastsInDim S32x32x64x128 (![] : Fin 0 → Fin S32x32x64x128.rank)
  reducesTo_S32x32x64x128_S_d0_1_2_3 : S32x32x64x128.ReducesTo [0, 1, 2, 3] S_
  h_S_ : 0 < S_.numel

variable [Facts]

def fn {F : FTy → Type} [FloatOps F] (main_arg0 : FVec F S32x32x1x128x128 .f32) (main_arg1 : FVec F S32x32x1x128x128 .f32) (main_arg2 : IVec S32x32x64x128 32) : IVec S_ 1 :=
  let main_c : IVec S_ 32 := constantI S_ 32 0#32
  let main_v0 : IVec S32x32x64x128 32 := broadcastInDim S32x32x64x128 ![] bcast_S_S32x32x64x128 main_c
  let main_v1 : IVec S32x32x64x128 1 := cmpi .sge main_arg2 main_v0
  let main_c_0 : IVec S_ 32 := constantI S_ 32 128#32
  let main_v2 : IVec S32x32x64x128 32 := broadcastInDim S32x32x64x128 ![] bcast_S_S32x32x64x128 main_c_0
  let main_v3 : IVec S32x32x64x128 1 := cmpi .slt main_arg2 main_v2
  let main_v4 : IVec S32x32x64x128 1 := andi main_v1 main_v3
  let main_c_1 : IVec S_ 1 := constantI S_ 1 1#1
  let main_v5 : IVec S_ 1 := (fun x v => Host.reduce IntOp.andi x v reducesTo_S32x32x64x128_S_d0_1_2_3 h_S_) main_v4 main_c_1
  main_v5
-- ==== Kernel.lean ====
abbrev S32x32x1x128x128 : Shape := ⟨5, ![32, 32, 1, 128, 128]⟩
abbrev S32x32x64x128 : Shape := ⟨4, ![32, 32, 64, 128]⟩
abbrev S1024x128x128 : Shape := ⟨3, ![1024, 128, 128]⟩
abbrev S1024x64x128 : Shape := ⟨3, ![1024, 64, 128]⟩
abbrev S32x16 : Shape := ⟨2, ![32, 16]⟩
abbrev S128x65 : Shape := ⟨2, ![128, 65]⟩
abbrev S64x128 : Shape := ⟨2, ![64, 128]⟩
abbrev S16 : Shape := ⟨1, ![16]⟩
abbrev S_ : Shape := ⟨0, ![]⟩
abbrev S128x64 : Shape := ⟨2, ![128, 64]⟩
abbrev S1x128x64 : Shape := ⟨3, ![1, 128, 64]⟩
abbrev S1x64x128 : Shape := ⟨3, ![1, 64, 128]⟩
abbrev S1x16 : Shape := ⟨2, ![1, 16]⟩

abbrev nBuf : Table → Nat
  | .hbm => 11
  | .local .scVector .vmem => 7
  | _ => 0

abbrev bufTy : (tb : Table) → Fin (nBuf tb) → BufTy
  | .hbm, ⟨0, _⟩ => ⟨S32x32x1x128x128, .f32⟩
  | .hbm, ⟨1, _⟩ => ⟨S32x32x1x128x128, .f32⟩
  | .hbm, ⟨2, _⟩ => ⟨S32x32x64x128, .i32⟩
  | .hbm, ⟨3, _⟩ => ⟨S1024x128x128, .f32⟩
  | .hbm, ⟨4, _⟩ => ⟨S1024x128x128, .f32⟩
  | .hbm, ⟨5, _⟩ => ⟨S1024x64x128, .i32⟩
  | .hbm, ⟨6, _⟩ => ⟨S32x16, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local .scVector .vmem, ⟨0, _⟩ => ⟨S128x65, .f32⟩
  | .local .scVector .vmem, ⟨1, _⟩ => ⟨S128x65, .f32⟩
  | .local .scVector .vmem, ⟨2, _⟩ => ⟨S64x128, .i32⟩
  | .local .scVector .vmem, ⟨3, _⟩ => ⟨S128x65, .f32⟩
  | .local .scVector .vmem, ⟨4, _⟩ => ⟨S128x65, .f32⟩
  | .local .scVector .vmem, ⟨5, _⟩ => ⟨S64x128, .i32⟩
  | .local .scVector .vmem, ⟨6, _⟩ => ⟨S16, .f32⟩
  | _, _ => ⟨S32x32x1x128x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev main_v3_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_1 : BitVec 32 := 0#32
  let c0_i32_2 : BitVec 32 := 0#32
  ![v2.toNat, 0, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_15 : BitVec 32 := 0#32
  let c0_i32_16 : BitVec 32 := 0#32
  ![v2.toNat, 0, 0]
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c1_i32 : BitVec 32 := 1#32
  let v19 : BitVec 32 := Scalar.addi v2 c1_i32
  let c0_i32_21 : BitVec 32 := 0#32
  let c0_i32_22 : BitVec 32 := 0#32
  ![v19.toNat, 0, 0]
def k0_off4 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c1_i32 : BitVec 32 := 1#32
  let v19 : BitVec 32 := Scalar.addi v2 c1_i32
  let c0_i32_35 : BitVec 32 := 0#32
  let c0_i32_36 : BitVec 32 := 0#32
  ![v19.toNat, 0, 0]
@[reducible] def k0_t1_loop : Scf.Loop 32 :=
  let c0_i32_39 : BitVec 32 := 0#32
  let c16_i32 : BitVec 32 := 16#32
  let v37 : BitVec 32 := Scalar.addi c0_i32_39 c16_i32
  let c1_i32_40 : BitVec 32 := 1#32
  ⟨c0_i32_39, v37, c1_i32_40⟩
def k0_off5 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_42 : BitVec 32 := 2#32
  let c0_i32_39 : BitVec 32 := 0#32
  let c1_i32_40 : BitVec 32 := 1#32
  let arg17 : BitVec 32 := Scf.iv c0_i32_39 c1_i32_40 k0_t1
  let v40 : BitVec 32 := Scalar.muli c2_i32_42 arg17
  let v41 : BitVec 32 := Scalar.addi v2 v40
  let c0_i32_46 : BitVec 32 := 0#32
  let c0_i32_47 : BitVec 32 := 0#32
  ![v41.toNat, 0, 0]
def k0_off6 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_42 : BitVec 32 := 2#32
  let c0_i32_39 : BitVec 32 := 0#32
  let c1_i32_40 : BitVec 32 := 1#32
  let arg17 : BitVec 32 := Scf.iv c0_i32_39 c1_i32_40 k0_t1
  let v40 : BitVec 32 := Scalar.muli c2_i32_42 arg17
  let v41 : BitVec 32 := Scalar.addi v2 v40
  let c0_i32_60 : BitVec 32 := 0#32
  let c0_i32_61 : BitVec 32 := 0#32
  ![v41.toNat, 0, 0]
@[reducible] def k0_t2_loop : Scf.Loop 32 :=
  let c0_i32_64 : BitVec 32 := 0#32
  let c128_i32 : BitVec 32 := 128#32
  let v60 : BitVec 32 := Scalar.addi c0_i32_64 c128_i32
  let c1_i32_65 : BitVec 32 := 1#32
  ⟨c0_i32_64, v60, c1_i32_65⟩
def k0_off7 (k0_t2 : Fin k0_t2_loop.trips) : Fin 2 → Nat :=
  let c0_i32_104 : BitVec 32 := 0#32
  let c0_i32_64 : BitVec 32 := 0#32
  let c1_i32_65 : BitVec 32 := 1#32
  let arg19 : BitVec 32 := Scf.iv c0_i32_64 c1_i32_65 k0_t2
  let c1_i32_103 : BitVec 32 := 1#32
  let v90 : BitVec 32 := Scalar.muli arg19 c1_i32_103
  let v91 : BitVec 32 := Scalar.addi c0_i32_104 v90
  let v92 : Index := Scalar.indexCast v91
  let c0_105 : Index := 0#32
  ![v92.toNat, 0]
def k0_off8 (k0_t2 : Fin k0_t2_loop.trips) : Fin 2 → Nat :=
  let c0_i32_104 : BitVec 32 := 0#32
  let c0_i32_64 : BitVec 32 := 0#32
  let c1_i32_65 : BitVec 32 := 1#32
  let arg19 : BitVec 32 := Scf.iv c0_i32_64 c1_i32_65 k0_t2
  let c1_i32_103 : BitVec 32 := 1#32
  let v90 : BitVec 32 := Scalar.muli arg19 c1_i32_103
  let v91 : BitVec 32 := Scalar.addi c0_i32_104 v90
  let v99 : Index := Scalar.indexCast v91
  let c16 : Index := 16#32
  ![v99.toNat, 16]
def k0_off9 (k0_t2 : Fin k0_t2_loop.trips) : Fin 2 → Nat :=
  let c0_i32_104 : BitVec 32 := 0#32
  let c0_i32_64 : BitVec 32 := 0#32
  let c1_i32_65 : BitVec 32 := 1#32
  let arg19 : BitVec 32 := Scf.iv c0_i32_64 c1_i32_65 k0_t2
  let c1_i32_103 : BitVec 32 := 1#32
  let v90 : BitVec 32 := Scalar.muli arg19 c1_i32_103
  let v91 : BitVec 32 := Scalar.addi c0_i32_104 v90
  let v106 : Index := Scalar.indexCast v91
  let c32 : Index := 32#32
  ![v106.toNat, 32]
def k0_off10 (k0_t2 : Fin k0_t2_loop.trips) : Fin 2 → Nat :=
  let c0_i32_104 : BitVec 32 := 0#32
  let c0_i32_64 : BitVec 32 := 0#32
  let c1_i32_65 : BitVec 32 := 1#32
  let arg19 : BitVec 32 := Scf.iv c0_i32_64 c1_i32_65 k0_t2
  let c1_i32_103 : BitVec 32 := 1#32
  let v90 : BitVec 32 := Scalar.muli arg19 c1_i32_103
  let v91 : BitVec 32 := Scalar.addi c0_i32_104 v90
  let v113 : Index := Scalar.indexCast v91
  let c48 : Index := 48#32
  ![v113.toNat, 48]
@[reducible] def k0_t3_loop : Scf.Loop 32 :=
  let c0_i32_67 : BitVec 32 := 0#32
  let c64_i32 : BitVec 32 := 64#32
  let v61 : BitVec 32 := Scalar.addi c0_i32_67 c64_i32
  let c1_i32_68 : BitVec 32 := 1#32
  ⟨c0_i32_67, v61, c1_i32_68⟩
def k0_off11 (k0_t3 : Fin k0_t3_loop.trips) : Fin 2 → Nat :=
  let c0_i32_67 : BitVec 32 := 0#32
  let c1_i32_68 : BitVec 32 := 1#32
  let arg19 : BitVec 32 := Scf.iv c0_i32_67 c1_i32_68 k0_t3
  let v91 : Index := Scalar.indexCast arg19
  let c0_103 : Index := 0#32
  ![v91.toNat, 0]

def k0_chk1 (v90 : IVec S16 32) (v92 : IVec S16 32) : Prop :=
  (∀ a x, ((![v92, v90] : Fin 2 → IVec S16 32) a x).toNat < S128x65.size a)
theorem k0_idx1_inb : ∀ (v90 : IVec S16 32) (v92 : IVec S16 32) (k0_hw1 : k0_chk1 v90 v92), ∀ a x, ((![v92, v90] : Fin 2 → IVec S16 32) a x).toNat < S128x65.size a := fun v90 v92 k0_hw1 => k0_hw1
def k0_off12 (k0_t3 : Fin k0_t3_loop.trips) : Fin 2 → Nat :=
  let c0_i32_67 : BitVec 32 := 0#32
  let c1_i32_68 : BitVec 32 := 1#32
  let arg19 : BitVec 32 := Scf.iv c0_i32_67 c1_i32_68 k0_t3
  let v96 : Index := Scalar.indexCast arg19
  let c16 : Index := 16#32
  ![v96.toNat, 16]

def k0_chk2 (v90 : IVec S16 32) (v97 : IVec S16 32) : Prop :=
  (∀ a x, ((![v97, v90] : Fin 2 → IVec S16 32) a x).toNat < S128x65.size a)
theorem k0_idx2_inb : ∀ (v90 : IVec S16 32) (v97 : IVec S16 32) (k0_hw2 : k0_chk2 v90 v97), ∀ a x, ((![v97, v90] : Fin 2 → IVec S16 32) a x).toNat < S128x65.size a := fun v90 v97 k0_hw2 => k0_hw2
def k0_off13 (k0_t3 : Fin k0_t3_loop.trips) : Fin 2 → Nat :=
  let c0_i32_67 : BitVec 32 := 0#32
  let c1_i32_68 : BitVec 32 := 1#32
  let arg19 : BitVec 32 := Scf.iv c0_i32_67 c1_i32_68 k0_t3
  let v101 : Index := Scalar.indexCast arg19
  let c32 : Index := 32#32
  ![v101.toNat, 32]

def k0_chk3 (v90 : IVec S16 32) (v102 : IVec S16 32) : Prop :=
  (∀ a x, ((![v102, v90] : Fin 2 → IVec S16 32) a x).toNat < S128x65.size a)
theorem k0_idx3_inb : ∀ (v90 : IVec S16 32) (v102 : IVec S16 32) (k0_hw3 : k0_chk3 v90 v102), ∀ a x, ((![v102, v90] : Fin 2 → IVec S16 32) a x).toNat < S128x65.size a := fun v90 v102 k0_hw3 => k0_hw3
def k0_off14 (k0_t3 : Fin k0_t3_loop.trips) : Fin 2 → Nat :=
  let c0_i32_67 : BitVec 32 := 0#32
  let c1_i32_68 : BitVec 32 := 1#32
  let arg19 : BitVec 32 := Scf.iv c0_i32_67 c1_i32_68 k0_t3
  let v106 : Index := Scalar.indexCast arg19
  let c48 : Index := 48#32
  ![v106.toNat, 48]

def k0_chk4 (v90 : IVec S16 32) (v107 : IVec S16 32) : Prop :=
  (∀ a x, ((![v107, v90] : Fin 2 → IVec S16 32) a x).toNat < S128x65.size a)
theorem k0_idx4_inb : ∀ (v90 : IVec S16 32) (v107 : IVec S16 32) (k0_hw4 : k0_chk4 v90 v107), ∀ a x, ((![v107, v90] : Fin 2 → IVec S16 32) a x).toNat < S128x65.size a := fun v90 v107 k0_hw4 => k0_hw4
def k0_off15 (k0_t3 : Fin k0_t3_loop.trips) : Fin 2 → Nat :=
  let c0_i32_67 : BitVec 32 := 0#32
  let c1_i32_68 : BitVec 32 := 1#32
  let arg19 : BitVec 32 := Scf.iv c0_i32_67 c1_i32_68 k0_t3
  let v111 : Index := Scalar.indexCast arg19
  let c64 : Index := 64#32
  ![v111.toNat, 64]

def k0_chk5 (v90 : IVec S16 32) (v112 : IVec S16 32) : Prop :=
  (∀ a x, ((![v112, v90] : Fin 2 → IVec S16 32) a x).toNat < S128x65.size a)
theorem k0_idx5_inb : ∀ (v90 : IVec S16 32) (v112 : IVec S16 32) (k0_hw5 : k0_chk5 v90 v112), ∀ a x, ((![v112, v90] : Fin 2 → IVec S16 32) a x).toNat < S128x65.size a := fun v90 v112 k0_hw5 => k0_hw5
def k0_off16 (k0_t3 : Fin k0_t3_loop.trips) : Fin 2 → Nat :=
  let c0_i32_67 : BitVec 32 := 0#32
  let c1_i32_68 : BitVec 32 := 1#32
  let arg19 : BitVec 32 := Scf.iv c0_i32_67 c1_i32_68 k0_t3
  let v116 : Index := Scalar.indexCast arg19
  let c80 : Index := 80#32
  ![v116.toNat, 80]

def k0_chk6 (v90 : IVec S16 32) (v117 : IVec S16 32) : Prop :=
  (∀ a x, ((![v117, v90] : Fin 2 → IVec S16 32) a x).toNat < S128x65.size a)
theorem k0_idx6_inb : ∀ (v90 : IVec S16 32) (v117 : IVec S16 32) (k0_hw6 : k0_chk6 v90 v117), ∀ a x, ((![v117, v90] : Fin 2 → IVec S16 32) a x).toNat < S128x65.size a := fun v90 v117 k0_hw6 => k0_hw6
def k0_off17 (k0_t3 : Fin k0_t3_loop.trips) : Fin 2 → Nat :=
  let c0_i32_67 : BitVec 32 := 0#32
  let c1_i32_68 : BitVec 32 := 1#32
  let arg19 : BitVec 32 := Scf.iv c0_i32_67 c1_i32_68 k0_t3
  let v121 : Index := Scalar.indexCast arg19
  let c96 : Index := 96#32
  ![v121.toNat, 96]

def k0_chk7 (v90 : IVec S16 32) (v122 : IVec S16 32) : Prop :=
  (∀ a x, ((![v122, v90] : Fin 2 → IVec S16 32) a x).toNat < S128x65.size a)
theorem k0_idx7_inb : ∀ (v90 : IVec S16 32) (v122 : IVec S16 32) (k0_hw7 : k0_chk7 v90 v122), ∀ a x, ((![v122, v90] : Fin 2 → IVec S16 32) a x).toNat < S128x65.size a := fun v90 v122 k0_hw7 => k0_hw7
def k0_off18 (k0_t3 : Fin k0_t3_loop.trips) : Fin 2 → Nat :=
  let c0_i32_67 : BitVec 32 := 0#32
  let c1_i32_68 : BitVec 32 := 1#32
  let arg19 : BitVec 32 := Scf.iv c0_i32_67 c1_i32_68 k0_t3
  let v126 : Index := Scalar.indexCast arg19
  let c112 : Index := 112#32
  ![v126.toNat, 112]

def k0_chk8 (v90 : IVec S16 32) (v127 : IVec S16 32) : Prop :=
  (∀ a x, ((![v127, v90] : Fin 2 → IVec S16 32) a x).toNat < S128x65.size a)
theorem k0_idx8_inb : ∀ (v90 : IVec S16 32) (v127 : IVec S16 32) (k0_hw8 : k0_chk8 v90 v127), ∀ a x, ((![v127, v90] : Fin 2 → IVec S16 32) a x).toNat < S128x65.size a := fun v90 v127 k0_hw8 => k0_hw8
def k0_cond1 (k0_t1 : Fin k0_t1_loop.trips) : BitVec 1 :=
  let c2_i32_42 : BitVec 32 := 2#32
  let c0_i32_39 : BitVec 32 := 0#32
  let c1_i32_40 : BitVec 32 := 1#32
  let arg17 : BitVec 32 := Scf.iv c0_i32_39 c1_i32_40 k0_t1
  let v40 : BitVec 32 := Scalar.muli c2_i32_42 arg17
  let c2_i32_70 : BitVec 32 := 2#32
  let v63 : BitVec 32 := Scalar.addi v40 c2_i32_70
  let c32_i32_71 : BitVec 32 := 32#32
  let v64 : BitVec 1 := Scalar.cmpi .slt v63 c32_i32_71
  let v65 : BitVec 32 := Scalar.extui v64
  let c0_i32_72 : BitVec 32 := 0#32
  let v66 : BitVec 1 := Scalar.cmpi .ne v65 c0_i32_72
  v66

def k0_off19 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_42 : BitVec 32 := 2#32
  let c0_i32_39 : BitVec 32 := 0#32
  let c1_i32_40 : BitVec 32 := 1#32
  let arg17 : BitVec 32 := Scf.iv c0_i32_39 c1_i32_40 k0_t1
  let v40 : BitVec 32 := Scalar.muli c2_i32_42 arg17
  let v41 : BitVec 32 := Scalar.addi v2 v40
  let c2_i32_103 : BitVec 32 := 2#32
  let v90 : BitVec 32 := Scalar.addi v41 c2_i32_103
  let c0_i32_106 : BitVec 32 := 0#32
  let c0_i32_107 : BitVec 32 := 0#32
  ![v90.toNat, 0, 0]
def k0_off20 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_42 : BitVec 32 := 2#32
  let c0_i32_39 : BitVec 32 := 0#32
  let c1_i32_40 : BitVec 32 := 1#32
  let arg17 : BitVec 32 := Scf.iv c0_i32_39 c1_i32_40 k0_t1
  let v40 : BitVec 32 := Scalar.muli c2_i32_42 arg17
  let v41 : BitVec 32 := Scalar.addi v2 v40
  let c2_i32_103 : BitVec 32 := 2#32
  let v90 : BitVec 32 := Scalar.addi v41 c2_i32_103
  let c0_i32_120 : BitVec 32 := 0#32
  let c0_i32_121 : BitVec 32 := 0#32
  ![v90.toNat, 0, 0]
def k0_off21 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_42 : BitVec 32 := 2#32
  let c0_i32_39 : BitVec 32 := 0#32
  let c1_i32_40 : BitVec 32 := 1#32
  let arg17 : BitVec 32 := Scf.iv c0_i32_39 c1_i32_40 k0_t1
  let v40 : BitVec 32 := Scalar.muli c2_i32_42 arg17
  let v42 : BitVec 32 := Scalar.addi v2 v40
  let c1_i32_43 : BitVec 32 := 1#32
  let v43 : BitVec 32 := Scalar.addi v42 c1_i32_43
  let c0_i32_75 : BitVec 32 := 0#32
  let c0_i32_76 : BitVec 32 := 0#32
  ![v43.toNat, 0, 0]
def k0_off22 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_42 : BitVec 32 := 2#32
  let c0_i32_39 : BitVec 32 := 0#32
  let c1_i32_40 : BitVec 32 := 1#32
  let arg17 : BitVec 32 := Scf.iv c0_i32_39 c1_i32_40 k0_t1
  let v40 : BitVec 32 := Scalar.muli c2_i32_42 arg17
  let v42 : BitVec 32 := Scalar.addi v2 v40
  let c1_i32_43 : BitVec 32 := 1#32
  let v43 : BitVec 32 := Scalar.addi v42 c1_i32_43
  let c0_i32_89 : BitVec 32 := 0#32
  let c0_i32_90 : BitVec 32 := 0#32
  ![v43.toNat, 0, 0]
@[reducible] def k0_t4_loop : Scf.Loop 32 :=
  let c0_i32_93 : BitVec 32 := 0#32
  let c128_i32_94 : BitVec 32 := 128#32
  let v83 : BitVec 32 := Scalar.addi c0_i32_93 c128_i32_94
  let c1_i32_95 : BitVec 32 := 1#32
  ⟨c0_i32_93, v83, c1_i32_95⟩
def k0_off23 (k0_t4 : Fin k0_t4_loop.trips) : Fin 2 → Nat :=
  let c0_i32_104 : BitVec 32 := 0#32
  let c0_i32_93 : BitVec 32 := 0#32
  let c1_i32_95 : BitVec 32 := 1#32
  let arg19 : BitVec 32 := Scf.iv c0_i32_93 c1_i32_95 k0_t4
  let c1_i32_103 : BitVec 32 := 1#32
  let v90 : BitVec 32 := Scalar.muli arg19 c1_i32_103
  let v91 : BitVec 32 := Scalar.addi c0_i32_104 v90
  let v92 : Index := Scalar.indexCast v91
  let c0_105 : Index := 0#32
  ![v92.toNat, 0]
def k0_off24 (k0_t4 : Fin k0_t4_loop.trips) : Fin 2 → Nat :=
  let c0_i32_104 : BitVec 32 := 0#32
  let c0_i32_93 : BitVec 32 := 0#32
  let c1_i32_95 : BitVec 32 := 1#32
  let arg19 : BitVec 32 := Scf.iv c0_i32_93 c1_i32_95 k0_t4
  let c1_i32_103 : BitVec 32 := 1#32
  let v90 : BitVec 32 := Scalar.muli arg19 c1_i32_103
  let v91 : BitVec 32 := Scalar.addi c0_i32_104 v90
  let v99 : Index := Scalar.indexCast v91
  let c16 : Index := 16#32
  ![v99.toNat, 16]
def k0_off25 (k0_t4 : Fin k0_t4_loop.trips) : Fin 2 → Nat :=
  let c0_i32_104 : BitVec 32 := 0#32
  let c0_i32_93 : BitVec 32 := 0#32
  let c1_i32_95 : BitVec 32 := 1#32
  let arg19 : BitVec 32 := Scf.iv c0_i32_93 c1_i32_95 k0_t4
  let c1_i32_103 : BitVec 32 := 1#32
  let v90 : BitVec 32 := Scalar.muli arg19 c1_i32_103
  let v91 : BitVec 32 := Scalar.addi c0_i32_104 v90
  let v106 : Index := Scalar.indexCast v91
  let c32 : Index := 32#32
  ![v106.toNat, 32]
def k0_off26 (k0_t4 : Fin k0_t4_loop.trips) : Fin 2 → Nat :=
  let c0_i32_104 : BitVec 32 := 0#32
  let c0_i32_93 : BitVec 32 := 0#32
  let c1_i32_95 : BitVec 32 := 1#32
  let arg19 : BitVec 32 := Scf.iv c0_i32_93 c1_i32_95 k0_t4
  let c1_i32_103 : BitVec 32 := 1#32
  let v90 : BitVec 32 := Scalar.muli arg19 c1_i32_103
  let v91 : BitVec 32 := Scalar.addi c0_i32_104 v90
  let v113 : Index := Scalar.indexCast v91
  let c48 : Index := 48#32
  ![v113.toNat, 48]
@[reducible] def k0_t5_loop : Scf.Loop 32 :=
  let c0_i32_97 : BitVec 32 := 0#32
  let c64_i32_98 : BitVec 32 := 64#32
  let v84 : BitVec 32 := Scalar.addi c0_i32_97 c64_i32_98
  let c1_i32_99 : BitVec 32 := 1#32
  ⟨c0_i32_97, v84, c1_i32_99⟩
def k0_off27 (k0_t5 : Fin k0_t5_loop.trips) : Fin 2 → Nat :=
  let c0_i32_97 : BitVec 32 := 0#32
  let c1_i32_99 : BitVec 32 := 1#32
  let arg19 : BitVec 32 := Scf.iv c0_i32_97 c1_i32_99 k0_t5
  let v91 : Index := Scalar.indexCast arg19
  let c0_103 : Index := 0#32
  ![v91.toNat, 0]

def k0_chk9 (v90 : IVec S16 32) (v92 : IVec S16 32) : Prop :=
  (∀ a x, ((![v92, v90] : Fin 2 → IVec S16 32) a x).toNat < S128x65.size a)
theorem k0_idx9_inb : ∀ (v90 : IVec S16 32) (v92 : IVec S16 32) (k0_hw9 : k0_chk9 v90 v92), ∀ a x, ((![v92, v90] : Fin 2 → IVec S16 32) a x).toNat < S128x65.size a := fun v90 v92 k0_hw9 => k0_hw9
def k0_off28 (k0_t5 : Fin k0_t5_loop.trips) : Fin 2 → Nat :=
  let c0_i32_97 : BitVec 32 := 0#32
  let c1_i32_99 : BitVec 32 := 1#32
  let arg19 : BitVec 32 := Scf.iv c0_i32_97 c1_i32_99 k0_t5
  let v96 : Index := Scalar.indexCast arg19
  let c16 : Index := 16#32
  ![v96.toNat, 16]

def k0_chk10 (v90 : IVec S16 32) (v97 : IVec S16 32) : Prop :=
  (∀ a x, ((![v97, v90] : Fin 2 → IVec S16 32) a x).toNat < S128x65.size a)
theorem k0_idx10_inb : ∀ (v90 : IVec S16 32) (v97 : IVec S16 32) (k0_hw10 : k0_chk10 v90 v97), ∀ a x, ((![v97, v90] : Fin 2 → IVec S16 32) a x).toNat < S128x65.size a := fun v90 v97 k0_hw10 => k0_hw10
def k0_off29 (k0_t5 : Fin k0_t5_loop.trips) : Fin 2 → Nat :=
  let c0_i32_97 : BitVec 32 := 0#32
  let c1_i32_99 : BitVec 32 := 1#32
  let arg19 : BitVec 32 := Scf.iv c0_i32_97 c1_i32_99 k0_t5
  let v101 : Index := Scalar.indexCast arg19
  let c32 : Index := 32#32
  ![v101.toNat, 32]

def k0_chk11 (v90 : IVec S16 32) (v102 : IVec S16 32) : Prop :=
  (∀ a x, ((![v102, v90] : Fin 2 → IVec S16 32) a x).toNat < S128x65.size a)
theorem k0_idx11_inb : ∀ (v90 : IVec S16 32) (v102 : IVec S16 32) (k0_hw11 : k0_chk11 v90 v102), ∀ a x, ((![v102, v90] : Fin 2 → IVec S16 32) a x).toNat < S128x65.size a := fun v90 v102 k0_hw11 => k0_hw11
def k0_off30 (k0_t5 : Fin k0_t5_loop.trips) : Fin 2 → Nat :=
  let c0_i32_97 : BitVec 32 := 0#32
  let c1_i32_99 : BitVec 32 := 1#32
  let arg19 : BitVec 32 := Scf.iv c0_i32_97 c1_i32_99 k0_t5
  let v106 : Index := Scalar.indexCast arg19
  let c48 : Index := 48#32
  ![v106.toNat, 48]

def k0_chk12 (v90 : IVec S16 32) (v107 : IVec S16 32) : Prop :=
  (∀ a x, ((![v107, v90] : Fin 2 → IVec S16 32) a x).toNat < S128x65.size a)
theorem k0_idx12_inb : ∀ (v90 : IVec S16 32) (v107 : IVec S16 32) (k0_hw12 : k0_chk12 v90 v107), ∀ a x, ((![v107, v90] : Fin 2 → IVec S16 32) a x).toNat < S128x65.size a := fun v90 v107 k0_hw12 => k0_hw12
def k0_off31 (k0_t5 : Fin k0_t5_loop.trips) : Fin 2 → Nat :=
  let c0_i32_97 : BitVec 32 := 0#32
  let c1_i32_99 : BitVec 32 := 1#32
  let arg19 : BitVec 32 := Scf.iv c0_i32_97 c1_i32_99 k0_t5
  let v111 : Index := Scalar.indexCast arg19
  let c64 : Index := 64#32
  ![v111.toNat, 64]

def k0_chk13 (v90 : IVec S16 32) (v112 : IVec S16 32) : Prop :=
  (∀ a x, ((![v112, v90] : Fin 2 → IVec S16 32) a x).toNat < S128x65.size a)
theorem k0_idx13_inb : ∀ (v90 : IVec S16 32) (v112 : IVec S16 32) (k0_hw13 : k0_chk13 v90 v112), ∀ a x, ((![v112, v90] : Fin 2 → IVec S16 32) a x).toNat < S128x65.size a := fun v90 v112 k0_hw13 => k0_hw13
def k0_off32 (k0_t5 : Fin k0_t5_loop.trips) : Fin 2 → Nat :=
  let c0_i32_97 : BitVec 32 := 0#32
  let c1_i32_99 : BitVec 32 := 1#32
  let arg19 : BitVec 32 := Scf.iv c0_i32_97 c1_i32_99 k0_t5
  let v116 : Index := Scalar.indexCast arg19
  let c80 : Index := 80#32
  ![v116.toNat, 80]

def k0_chk14 (v90 : IVec S16 32) (v117 : IVec S16 32) : Prop :=
  (∀ a x, ((![v117, v90] : Fin 2 → IVec S16 32) a x).toNat < S128x65.size a)
theorem k0_idx14_inb : ∀ (v90 : IVec S16 32) (v117 : IVec S16 32) (k0_hw14 : k0_chk14 v90 v117), ∀ a x, ((![v117, v90] : Fin 2 → IVec S16 32) a x).toNat < S128x65.size a := fun v90 v117 k0_hw14 => k0_hw14
def k0_off33 (k0_t5 : Fin k0_t5_loop.trips) : Fin 2 → Nat :=
  let c0_i32_97 : BitVec 32 := 0#32
  let c1_i32_99 : BitVec 32 := 1#32
  let arg19 : BitVec 32 := Scf.iv c0_i32_97 c1_i32_99 k0_t5
  let v121 : Index := Scalar.indexCast arg19
  let c96 : Index := 96#32
  ![v121.toNat, 96]

def k0_chk15 (v90 : IVec S16 32) (v122 : IVec S16 32) : Prop :=
  (∀ a x, ((![v122, v90] : Fin 2 → IVec S16 32) a x).toNat < S128x65.size a)
theorem k0_idx15_inb : ∀ (v90 : IVec S16 32) (v122 : IVec S16 32) (k0_hw15 : k0_chk15 v90 v122), ∀ a x, ((![v122, v90] : Fin 2 → IVec S16 32) a x).toNat < S128x65.size a := fun v90 v122 k0_hw15 => k0_hw15
def k0_off34 (k0_t5 : Fin k0_t5_loop.trips) : Fin 2 → Nat :=
  let c0_i32_97 : BitVec 32 := 0#32
  let c1_i32_99 : BitVec 32 := 1#32
  let arg19 : BitVec 32 := Scf.iv c0_i32_97 c1_i32_99 k0_t5
  let v126 : Index := Scalar.indexCast arg19
  let c112 : Index := 112#32
  ![v126.toNat, 112]

def k0_chk16 (v90 : IVec S16 32) (v127 : IVec S16 32) : Prop :=
  (∀ a x, ((![v127, v90] : Fin 2 → IVec S16 32) a x).toNat < S128x65.size a)
theorem k0_idx16_inb : ∀ (v90 : IVec S16 32) (v127 : IVec S16 32) (k0_hw16 : k0_chk16 v90 v127), ∀ a x, ((![v127, v90] : Fin 2 → IVec S16 32) a x).toNat < S128x65.size a := fun v90 v127 k0_hw16 => k0_hw16
def k0_cond2 (k0_t1 : Fin k0_t1_loop.trips) : BitVec 1 :=
  let c2_i32_42 : BitVec 32 := 2#32
  let c0_i32_39 : BitVec 32 := 0#32
  let c1_i32_40 : BitVec 32 := 1#32
  let arg17 : BitVec 32 := Scf.iv c0_i32_39 c1_i32_40 k0_t1
  let v40 : BitVec 32 := Scalar.muli c2_i32_42 arg17
  let c3_i32 : BitVec 32 := 3#32
  let v86 : BitVec 32 := Scalar.addi v40 c3_i32
  let c32_i32_101 : BitVec 32 := 32#32
  let v87 : BitVec 1 := Scalar.cmpi .slt v86 c32_i32_101
  let v88 : BitVec 32 := Scalar.extui v87
  let c0_i32_102 : BitVec 32 := 0#32
  let v89 : BitVec 1 := Scalar.cmpi .ne v88 c0_i32_102
  v89

def k0_off35 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_42 : BitVec 32 := 2#32
  let c0_i32_39 : BitVec 32 := 0#32
  let c1_i32_40 : BitVec 32 := 1#32
  let arg17 : BitVec 32 := Scf.iv c0_i32_39 c1_i32_40 k0_t1
  let v40 : BitVec 32 := Scalar.muli c2_i32_42 arg17
  let v42 : BitVec 32 := Scalar.addi v2 v40
  let c1_i32_43 : BitVec 32 := 1#32
  let v43 : BitVec 32 := Scalar.addi v42 c1_i32_43
  let c2_i32_103 : BitVec 32 := 2#32
  let v90 : BitVec 32 := Scalar.addi v43 c2_i32_103
  let c0_i32_106 : BitVec 32 := 0#32
  let c0_i32_107 : BitVec 32 := 0#32
  ![v90.toNat, 0, 0]
def k0_off36 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_42 : BitVec 32 := 2#32
  let c0_i32_39 : BitVec 32 := 0#32
  let c1_i32_40 : BitVec 32 := 1#32
  let arg17 : BitVec 32 := Scf.iv c0_i32_39 c1_i32_40 k0_t1
  let v40 : BitVec 32 := Scalar.muli c2_i32_42 arg17
  let v42 : BitVec 32 := Scalar.addi v2 v40
  let c1_i32_43 : BitVec 32 := 1#32
  let v43 : BitVec 32 := Scalar.addi v42 c1_i32_43
  let c2_i32_103 : BitVec 32 := 2#32
  let v90 : BitVec 32 := Scalar.addi v43 c2_i32_103
  let c0_i32_120 : BitVec 32 := 0#32
  let c0_i32_121 : BitVec 32 := 0#32
  ![v90.toNat, 0, 0]
def k0_off37 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x32x1x128x128 : Shape := ⟨5, ![32, 32, 1, 128, 128]⟩
abbrev S32x32x64x128 : Shape := ⟨4, ![32, 32, 64, 128]⟩
abbrev S32x32x128x128 : Shape := ⟨4, ![32, 32, 128, 128]⟩
abbrev S_ : Shape := ⟨0, ![]⟩
abbrev S32x32x64x128x1 : Shape := ⟨5, ![32, 32, 64, 128, 1]⟩
abbrev S1 : Shape := ⟨1, ![1]⟩
abbrev S1x1x1x1x1 : Shape := ⟨5, ![1, 1, 1, 1, 1]⟩

abbrev nBuf : Space → Nat
  | .hbm => 59
  | .vmem => 0
  | .smem => 0
  | _ => 0

abbrev bufTy : (tb : Table) → Fin (tcTables nBuf tb) → BufTy
  | .hbm, ⟨0, _⟩ => ⟨S32x32x1x128x128, .f32⟩
  | .hbm, ⟨1, _⟩ => ⟨S32x32x1x128x128, .f32⟩
  | .hbm, ⟨2, _⟩ => ⟨S32x32x64x128, .i32⟩
  | .hbm, ⟨3, _⟩ => ⟨S32x32x128x128, .f32⟩
  | .hbm, ⟨4, _⟩ => ⟨S32x32x128x128, .f32⟩
  | .hbm, ⟨5, _⟩ => ⟨S32x32x128x128, .f32⟩
  | .hbm, ⟨6, _⟩ => ⟨S32x32x128x128, .f32⟩
  | .hbm, ⟨7, _⟩ => ⟨S32x32x64x128, .f32⟩
  | .hbm, ⟨8, _⟩ => ⟨S_, .i32⟩
  | .hbm, ⟨9, _⟩ => ⟨S32x32x64x128, .i32⟩
  | .hbm, ⟨10, _⟩ => ⟨S32x32x64x128, .i1⟩
  | .hbm, ⟨11, _⟩ => ⟨S_, .i32⟩
  | .hbm, ⟨12, _⟩ => ⟨S32x32x64x128, .i32⟩
  | .hbm, ⟨13, _⟩ => ⟨S32x32x64x128, .i32⟩
  | .hbm, ⟨14, _⟩ => ⟨S32x32x64x128, .i32⟩
  | .hbm, ⟨15, _⟩ => ⟨S32x32x64x128x1, .i32⟩
  | .hbm, ⟨16, _⟩ => ⟨S1, .i32⟩
  | .hbm, ⟨17, _⟩ => ⟨S_, .i32⟩
  | .hbm, ⟨18, _⟩ => ⟨S32x32x64x128x1, .i32⟩
  | .hbm, ⟨19, _⟩ => ⟨S32x32x64x128x1, .i1⟩
  | .hbm, ⟨20, _⟩ => ⟨S1x1x1x1x1, .i32⟩
  | .hbm, ⟨21, _⟩ => ⟨S32x32x64x128x1, .i32⟩
  | .hbm, ⟨22, _⟩ => ⟨S32x32x64x128x1, .i1⟩
  | .hbm, ⟨23, _⟩ => ⟨S32x32x64x128x1, .i1⟩
  | .hbm, ⟨24, _⟩ => ⟨S_, .i1⟩
  | .hbm, ⟨25, _⟩ => ⟨S32x32x64x128, .i1⟩
  | .hbm, ⟨26, _⟩ => ⟨S32x32x64x128, .f32⟩
  | .hbm, ⟨27, _⟩ => ⟨S_, .f32⟩
  | .hbm, ⟨28, _⟩ => ⟨S32x32x64x128, .f32⟩
  | .hbm, ⟨29, _⟩ => ⟨S32x32x64x128, .f32⟩
  | .hbm, ⟨30, _⟩ => ⟨S32x32x64x128, .f32⟩
  | .hbm, ⟨31, _⟩ => ⟨S_, .i32⟩
  | .hbm, ⟨32, _⟩ => ⟨S32x32x64x128, .i32⟩
  | .hbm, ⟨33, _⟩ => ⟨S32x32x64x128, .i1⟩
  | .hbm, ⟨34, _⟩ => ⟨S_, .i32⟩
  | .hbm, ⟨35, _⟩ => ⟨S32x32x64x128, .i32⟩
  | .hbm, ⟨36, _⟩ => ⟨S32x32x64x128, .i32⟩
  | .hbm, ⟨37, _⟩ => ⟨S32x32x64x128, .i32⟩
  | .hbm, ⟨38, _⟩ => ⟨S32x32x64x128x1, .i32⟩
  | .hbm, ⟨39, _⟩ => ⟨S1, .i32⟩
  | .hbm, ⟨40, _⟩ => ⟨S_, .i32⟩
  | .hbm, ⟨41, _⟩ => ⟨S32x32x64x128x1, .i32⟩
  | .hbm, ⟨42, _⟩ => ⟨S32x32x64x128x1, .i1⟩
  | .hbm, ⟨43, _⟩ => ⟨S1x1x1x1x1, .i32⟩
  | .hbm, ⟨44, _⟩ => ⟨S32x32x64x128x1, .i32⟩
  | .hbm, ⟨45, _⟩ => ⟨S32x32x64x128x1, .i1⟩
  | .hbm, ⟨46, _⟩ => ⟨S32x32x64x128x1, .i1⟩
  | .hbm, ⟨47, _⟩ => ⟨S_, .i1⟩
  | .hbm, ⟨48, _⟩ => ⟨S32x32x64x128, .i1⟩
  | .hbm, ⟨49, _⟩ => ⟨S32x32x64x128, .f32⟩
  | .hbm, ⟨50, _⟩ => ⟨S_, .f32⟩
  | .hbm, ⟨51, _⟩ => ⟨S32x32x64x128, .f32⟩
  | .hbm, ⟨52, _⟩ => ⟨S32x32x64x128, .f32⟩
  | .hbm, ⟨53, _⟩ => ⟨S32x32x64x128, .f32⟩
  | .hbm, ⟨54, _⟩ => ⟨S32x32x64x128, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S32x32x1x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v5 : Ref sig .tc := ⟨.hbm, 29, rfl⟩
abbrev main_v6 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_cst : Ref sig .tc := ⟨.hbm, 50, rfl⟩
abbrev main_call1_v14 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_cst : Ref sig .tc := ⟨.hbm, 55, rfl⟩
abbrev main_v10 : Ref sig .tc := ⟨.hbm, 56, rfl⟩
abbrev main_cst_0 : Ref sig .tc := ⟨.hbm, 57, rfl⟩
abbrev main_v11 : Ref sig .tc := ⟨.hbm, 58, rfl⟩

abbrev nD : Nat := 1
abbrev τ : Topo := Topo.v7x

variable {F : FTy → Type} [FloatOps F]
-- ==== Proof.Values.lean ====
/-
  What one tile computes, as plain functions of the three arrays it reads.

  A tile takes pairs of images one after another. For one pair it subtracts the target rows from the input rows, and
  then, for each channel `i` and each of eight groups of sixteen lanes, adds the squares of the gathered differences to
  an accumulator of sixteen lanes.
-/
module

public import proofs.«01_k».proof.Proof.Gen.KernelIdeal.Skeleton
public import Idealize.ShloMosaic.Lib.VecWindow
public import Idealize.ShloMosaic.Lib.ValueLayout

@[expose] public section

noncomputable section

namespace Cert.Proof

open Cert.KernelIdeal Cert.KernelIdeal.Gen
open Idealize.ShloMosaic Idealize.ShloMosaic.ValueIdx

/-- Row `q`, column `j` of a padded buffer (both taken modulo the extents, so that no bound is carried). -/
def at2 (q j : ℕ) : S128x65.Idx := ix2 ⟨q % 128, Nat.mod_lt _ (by decide)⟩ ⟨j % 65, Nat.mod_lt _ (by decide)⟩
/-- Row `i`, column `l` of an index buffer. -/
def atX (i l : ℕ) : S64x128.Idx := ix2 ⟨i % 64, Nat.mod_lt _ (by decide)⟩ ⟨l % 128, Nat.mod_lt _ (by decide)⟩
/-- Pair `p`, row `q`, column `j` of an image array. -/
def at3 (p q j : ℕ) : S1024x128x128.Idx :=
  ix3 ⟨p % 1024, Nat.mod_lt _ (by decide)⟩ ⟨q % 128, Nat.mod_lt _ (by decide)⟩ ⟨j % 128, Nat.mod_lt _ (by decide)⟩
/-- Pair `p`, channel `i`, position `l` of the index array. -/
def at3X (p i l : ℕ) : S1024x64x128.Idx :=
  ix3 ⟨p % 1024, Nat.mod_lt _ (by decide)⟩ ⟨i % 64, Nat.mod_lt _ (by decide)⟩ ⟨l % 128, Nat.mod_lt _ (by decide)⟩

variable {F : FTy → Type} [FloatOps F]

/-- The input buffer `v` once the target buffer `t` is subtracted from the first `n` groups of sixteen columns, counted
    row by row, four groups to a row. Column 64 is padding and stays. -/
def subN (v t : S128x65.Idx → F .f32) (n : ℕ) : S128x65.Idx → F .f32 :=
  fun y => if (y 1).val < 64 ∧ 4 * (y 0).val + (y 1).val / 16 < n then FloatOps.subf (v y) (t y) else v y

theorem subN_zero (v t : S128x65.Idx → F .f32) : subN v t 0 = v := by
  funext y; unfold subN; rw [if_neg]; omega

/-- All 512 groups done: every column below 64 holds the difference. -/
theorem subN_all (v t : S128x65.Idx → F .f32) (q j : ℕ) (hj : j < 64) :
    subN v t 512 (at2 q j) = FloatOps.subf (v (at2 q j)) (t (at2 q j)) := by
  have h1 : ((at2 q j) 1).val = j := Nat.mod_eq_of_lt (by omega)
  have h0 : ((at2 q j) 0).val < 128 := Nat.mod_lt _ (by decide)
  unfold subN; rw [if_pos]; omega

/-- One group's store: row `r`, group `c`, is replaced by the difference of the two windows loaded there. -/
theorem put_subN (v t : S128x65.Idx → F .f32) (n r c : ℕ) (hn : n = 4 * r + c) (hc : c < 4)
    (inb : ∀ a, (![r, 16 * c] : Fin 2 → ℕ) a + S1x16.size a ≤ S128x65.size a) :
    VecWindow.put (subN v t n) ![r, 16 * c] S1x16.size
        (shapeCast S1x16 (k0_pay2 (VecWindow.window (subN v t n) ![r, 16 * c] S1x16.size inb)
          (VecWindow.window t ![r, 16 * c] S1x16.size inb)) shapeCasts_S16_S1x16) = subN v t (n + 1) := by
  funext y
  have hr : r < 128 := by have := inb 0; simp at this; omega
  have hy1 : (y 1).val < 65 := (y 1).isLt
  by_cases h : ∀ a, (![r, 16 * c] : Fin 2 → ℕ) a ≤ (y a).val ∧ (y a).val < (![r, 16 * c] : Fin 2 → ℕ) a + S1x16.size a
  · have h0 : (y 0).val = r := by have := h 0; simp at this; omega
    have h1 : 16 * c ≤ (y 1).val ∧ (y 1).val < 16 * c + 16 := by have := h 1; simpa using this
    have hp : ∀ w : S1x16.Idx → F .f32, VecWindow.put (subN v t n) ![r, 16 * c] S1x16.size w y
        = w (Rect.unitLocal (s := S128x65) (off := ![r, 16 * c]) (size := S1x16.size) y h) := fun w => dif_pos h
    rw [hp]
    have hloc : (Rect.unitLocal (s := S128x65) (off := ![r, 16 * c]) (size := S1x16.size) y h : S1x16.Idx)
        = ix2 (0 : Fin 1) (⟨(y 1).val - 16 * c, by omega⟩ : Fin 16) := by
      funext a
      match a with
      | ⟨0, _⟩ => exact Fin.ext (by show (y 0).val - r = 0; omega)
      | ⟨1, _⟩ => rfl
    rw [hloc, shapeCast_a_1a_apply]
    have hy : (Rect.unit (s := S128x65) ![r, 16 * c] S1x16.size inb).emb
        (ix2 (0 : Fin 1) (⟨(y 1).val - 16 * c, by omega⟩ : Fin 16) : S1x16.Idx) = y := by
      funext a
      match a with
      | ⟨0, _⟩ => exact Fin.ext (by show r + 1 * 0 = (y 0).val; omega)
      | ⟨1, _⟩ => exact Fin.ext (by show 16 * c + 1 * ((y 1).val - 16 * c) = (y 1).val; omega)
    have hs : ∀ x : S128x65.Idx → F .f32, shapeCast S16 (VecWindow.window x ![r, 16 * c] S1x16.size inb : S1x16.Idx → F .f32) shapeCasts_S1x16_S16
        (ix1 (⟨(y 1).val - 16 * c, by omega⟩ : Fin 16)) = x y := fun x => by
      refine (shapeCast_1a_a_apply _ _ _).trans ?_
      exact congrArg x hy
    show FloatOps.subf (shapeCast S16 (VecWindow.window (subN v t n) ![r, 16 * c] S1x16.size inb : S1x16.Idx → F .f32) shapeCasts_S1x16_S16 _)
      (shapeCast S16 (VecWindow.window t ![r, 16 * c] S1x16.size inb : S1x16.Idx → F .f32) shapeCasts_S1x16_S16 _) = _
    rw [hs, hs]
    unfold subN
    rw [if_neg (by omega), if_pos (by omega)]
  · have hp : ∀ w : S1x16.Idx → F .f32, VecWindow.put (subN v t n) ![r, 16 * c] S1x16.size w y = subN v t n y := fun w => dif_neg h
    rw [hp]
    unfold subN
    have : ¬ ((y 0).val = r ∧ 16 * c ≤ (y 1).val ∧ (y 1).val < 16 * c + 16) := fun ⟨a0, a1, a2⟩ => h fun a => by
      match a with
      | ⟨0, _⟩ => exact ⟨by show r ≤ (y 0).val; omega, by show (y 0).val < r + 1; omega⟩
      | ⟨1, _⟩ => exact ⟨a1, a2⟩
    congr 1
    exact propext ⟨fun ⟨a, b⟩ => ⟨a, by omega⟩, fun ⟨a, b⟩ => ⟨a, by omega⟩⟩

/-- The sixteen lanes gathered from a difference buffer `e`: channel `i`, group `g` of the positions. -/
def gat (e : S128x65.Idx → F .f32) (x : S64x128.Idx → BitVec 32) (i g : ℕ) : FVec F S16 .f32 :=
  fun l => e (at2 (x (atX i (16 * g + (l 0).val))).toNat i)

/-- The accumulator after one channel: eight squares added, group after group. -/
def chan (g : ℕ → FVec F S16 .f32) (acc : FVec F S16 .f32) : FVec F S16 .f32 :=
  k0_pay12 (k0_pay6 acc (g 0) (g 1) (g 2) (g 3) (g 4) (g 5) (g 6)) (g 7)

/-- The accumulator after the first `n` channels, the gathered lanes of channel `i` and group `j` being `g i j`. -/
def chans (g : ℕ → ℕ → FVec F S16 .f32) (acc : FVec F S16 .f32) : ℕ → FVec F S16 .f32
  | 0 => acc
  | n + 1 => chan (g n) (chans g acc n)

theorem chans_congr {g g' : ℕ → ℕ → FVec F S16 .f32} (acc : FVec F S16 .f32) :
    ∀ n, (∀ i < n, ∀ j < 8, g i j = g' i j) → chans g acc n = chans g' acc n
  | 0, _ => rfl
  | n + 1, h => by
    show chan (g n) (chans g acc n) = chan (g' n) (chans g' acc n)
    rw [chans_congr acc n fun i hi => h i (by omega)]
    unfold chan
    rw [h n (by omega) 0 (by omega), h n (by omega) 1 (by omega), h n (by omega) 2 (by omega), h n (by omega) 3 (by omega),
      h n (by omega) 4 (by omega), h n (by omega) 5 (by omega), h n (by omega) 6 (by omega), h n (by omega) 7 (by omega)]

/-- The lanes of pair `p`: the difference of the two image arrays at the row the index array names and channel `i`. -/
def gatP (A T : S1024x128x128.Idx → F .f32) (X : S1024x64x128.Idx → BitVec 32) (p i g : ℕ) : FVec F S16 .f32 :=
  fun l => FloatOps.subf (A (at3 p (X (at3X p i (16 * g + (l 0).val))).toNat i)) (T (at3 p (X (at3X p i (16 * g + (l 0).val))).toNat i))

/-- The accumulator of a tile whose pairs start at `base`, after its first `n` pairs. -/
def tileAcc (A T : S1024x128x128.Idx → F .f32) (X : S1024x64x128.Idx → BitVec 32) (base : ℕ) : ℕ → FVec F S16 .f32
  | 0 => k0_pay1
  | n + 1 => chans (gatP A T X (base + n)) (tileAcc A T X base n) 64

/-- What pair `p` brings to an image buffer: the first 64 columns of its rows. -/
def Brought (A : S1024x128x128.Idx → F .f32) (p : ℕ) (v : S128x65.Idx → F .f32) : Prop :=
  ∀ q j : ℕ, j < 64 → v (at2 q j) = A (at3 p q j)
/-- What pair `p` brings to an index buffer. -/
def BroughtX (X : S1024x64x128.Idx → BitVec 32) (p : ℕ) (x : S64x128.Idx → BitVec 32) : Prop :=
  ∀ i l : ℕ, x (atX i l) = X (at3X p i l)

/-- With the buffers of pair `p` brought and subtracted, the sixty-four channels add what `gatP` states. -/
theorem chans_brought {A T : S1024x128x128.Idx → F .f32} {X : S1024x64x128.Idx → BitVec 32} {p : ℕ}
    {v t : S128x65.Idx → F .f32} {x : S64x128.Idx → BitVec 32} (hv : Brought A p v) (ht : Brought T p t) (hx : BroughtX X p x)
    (acc : FVec F S16 .f32) : chans (gat (subN v t 512) x) acc 64 = chans (gatP A T X p) acc 64 := by
  refine chans_congr acc 64 fun i hi j _ => ?_
  funext l
  unfold gat gatP
  rw [subN_all _ _ _ _ hi, hv _ _ hi, ht _ _ hi, hx]

/-- The index vector loaded at row `i`, group `g`, in lane `l`. -/
theorem row_lane (x : S64x128.Idx → BitVec 32) (i g : ℕ) (inb : ∀ a, (![i, 16 * g] : Fin 2 → ℕ) a + S1x16.size a ≤ S64x128.size a) (l : S16.Idx) :
    shapeCast S16 (VecWindow.window x ![i, 16 * g] S1x16.size inb : S1x16.Idx → BitVec 32) shapeCasts_S1x16_S16 l = x (atX i (16 * g + (l 0).val)) := by
  have hi : i < 64 := by have := inb 0; simp at this; omega
  have hg : 16 * g + 16 ≤ 128 := by have := inb 1; simpa using this
  have hl : (l 0).val < 16 := (l 0).isLt
  rw [eq_ix1 l]
  refine (shapeCast_1a_a_apply _ _ _).trans ?_
  refine congrArg x (funext fun a => ?_)
  match a with
  | ⟨0, _⟩ => exact Fin.ext (by show i + 1 * 0 = i % 64; rw [Nat.mod_eq_of_lt hi]; omega)
  | ⟨1, _⟩ => exact Fin.ext (by
      show 16 * g + 1 * (l 0).val = (16 * g + (l 0).val) % 128
      rw [Nat.mod_eq_of_lt (by omega)]; omega)

/-- The gather the program performs, at the index vector `w` and the channel vector `i`, is `gat`. -/
theorem loadIdx_gat (e : S128x65.Idx → F .f32) (x : S64x128.Idx → BitVec 32) (i g : ℕ) (hi : i < 64)
    (w b : IVec S16 32) (hw : ∀ l, w l = x (atX i (16 * g + (l 0).val))) (hb : ∀ l, (b l).toNat = i)
    (h : ∀ a l, ((![w, b] : Fin 2 → IVec S16 32) a l).toNat < S128x65.size a) :
    (loadIdx (F := F) (s := S128x65) (t := S16) (e := .f32) e ![w, b] h : FVec F S16 .f32) = gat e x i g := by
  funext l
  unfold gat
  refine congrArg e (funext fun a => ?_)
  have h0 := h 0 l
  match a with
  | ⟨0, _⟩ => exact Fin.ext (by
      show (w l).toNat = (x (atX i (16 * g + (l 0).val))).toNat % 128
      have h0' : (w l).toNat < 128 := h0
      rw [← hw, Nat.mod_eq_of_lt h0'])
  | ⟨1, _⟩ => exact Fin.ext (by show (b l).toNat = i % 65; rw [hb, Nat.mod_eq_of_lt (by omega)])

end Cert.Proof
-- ==== Proof.Setup.lean ====
/-
  The launch as the theorems see it, and two ways of holding a tile's buffer.

  `Holds` says that a buffer of a tile is owned outright and that its memref reads a given vector. Loads, stores and
  gathers are restated over it, so that the loops are proved for any three memrefs of the right shapes and used twice,
  once per buffer set.
-/
module

public import proofs.«01_k».proof.Proof.Values
public import Idealize.ShloMosaic.Lib.SparseCore.Quiescent
public import Idealize.ShloMosaic.Lib.StableHlo.Run
public import Idealize.ShloMosaic.Lib.Pipeline.Kit
public import Idealize.ShloMosaic.Lib.SparseCore.Ops
public import Idealize.ShloMosaic.Lib.Batch
public import Idealize.ShloMosaic.Lib.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the printed program's tables. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
/-- The counters the transfers' protocol uses. -/
abbrev EC : UEmb Counters (MT nD τ sig (HIx 1) (Elt F) ℕ UU ℕ) := countersEmb

variable [FloatOps F] (d : Dev nD) (c : Fin τ.nSC) (w : Fin τ.nSub)

/-- A tile's program `p` runs to a state in which `Q` holds of what it returned. -/
abbrev wpV {α : Type} (p : Prog (TpuEff nD τ sig (Elt F) Λ₀ (.scVector c w)) α) (Q : α → sProp 𝕄) : sProp 𝕄 :=
  wp frame (wpE (defs₀ (F := F)) 𝒱₀ (V d c w) none) Set.univ p Q

section Holds
variable {sp : Space} {s : Shape} {e : EltTy}

/-- The tile owns what `m` names, and `m` reads `v` there. -/
def Holds (m : Memref sig .scVector sp s e) (v : s.Idx → Elt F e) : sProp 𝕄 :=
  iprop(∃ f, ⌜m.view.read (Elt F) f = v⌝ ∗ m.view.loc (V d c w) ↦[m.view.set]{fullShare} f)

/-- A load of a rectangle of unit strides: the program goes on at a window of what the buffer holds. -/
theorem wp_load_holds {α : Type} {Q : α → sProp 𝕄} {cs : CoreSpace} {m : Memref sig .scVector cs s e} {v : s.Idx → Elt F e} {off off' size : Fin s.rank → ℕ} {inb : ∀ a, off a + size a ≤ s.size a}
    (h : off = off') (inb' : ∀ a, off' a + size a ≤ s.size a) {hl : m.view.LoadsAt (Rect.unit off size inb).toLoadRect}
    {k : ((Rect.unit off size inb).shape.Idx → Elt F e) → Prog (TpuEff nD τ sig (Elt F) Λ₀ (.scVector c w)) α} :
    Holds d c w m v
      ⊢ iprop((Holds d c w m v -∗ wpV d c w (k (VecWindow.window v off' size inb')) Q)
        -∗ wpV d c w (.op (.load m (Rect.unit off size inb).toLoadRect hl) k) Q) := by
  unfold Holds
  iintro ⟨%f, %hf, H⟩ HK
  iapply (wp_load 𝒱₀ (V d c w) none Set.univ (q := fullShare) (S := m.view.set) (f := f) (View.setOn_subset_set _ _)) $$ H
  iintro H
  rw [View.readAt_unit _ _ inb h inb', hf]
  iapply HK
  iexists f
  isplitr
  · ipureintro; exact hf
  · iexact H

/-- A store over a rectangle of unit strides puts the payload there. -/
theorem wp_store_holds {α : Type} {Q : α → sProp 𝕄} {cs : CoreSpace} {m : Memref sig .scVector cs s e} {v : s.Idx → Elt F e} {off off' size : Fin s.rank → ℕ} {inb : ∀ a, off a + size a ≤ s.size a}
    (h : off = off') {x : (Rect.unit off size inb).shape.Idx → Elt F e} {hx : (m.access (Rect.unit off size inb)).Stores Finset.univ} {hm}
    {k : PUnit → Prog (TpuEff nD τ sig (Elt F) Λ₀ (.scVector c w)) α} :
    Holds d c w m v
      ⊢ iprop((Holds d c w m (VecWindow.put v off' size x) -∗ wpV d c w (k ⟨⟩) Q)
        -∗ wpV d c w (.op (.store m (Rect.unit off size inb) x Finset.univ hx hm) k) Q) := by
  unfold Holds
  iintro ⟨%f, %hf, H⟩ HK
  iapply (wp_store 𝒱₀ (V d c w) none Set.univ (m := m) (r := Rect.unit off size inb) (w := x) (S := m.view.set) (f := f)
    (Memref.set_access_subset_setOn m _ |>.trans (View.setOn_subset_set _ _))) $$ H
  iintro H
  iapply HK
  iexists _
  isplitr
  swap
  · iexact H
  · ipureintro
    have := View.read_writes_cons_put (Val := Elt F) m.view f inb x [] h
    rw [View.writes_nil, hf] at this
    exact this

/-- A gather from a buffer: the program goes on at the lanes read from what the buffer holds. -/
theorem wp_gather_holds {α : Type} {Q : α → sProp 𝕄} {t : Shape} {m : Memref sig .scVector .vmem s e} {v : s.Idx → Elt F e} {idxs : Fin s.rank → IVec t 32}
    {h : ∀ a x, (idxs a x).toNat < s.size a} {hl : m.view.Loads}
    {k : Vec F t e → Prog (TpuEff nD τ sig (Elt F) Λ₀ (.scVector c w)) α} :
    Holds d c w m v
      ⊢ iprop((Holds d c w m v -∗ wpV d c w (k (loadIdx v idxs h)) Q)
        -∗ wpV d c w (SparseCore.vectorLoadIdx m idxs h hl >>= k) Q) := by
  unfold Holds
  iintro ⟨%f, %hf, H⟩ HK
  iapply (SparseCore.wp_vectorLoadIdx 𝒱₀ (V d c w) none Set.univ (q := fullShare) (S := m.view.set) (f := f)
    (Memref.set_access_subset_setOn m _ |>.trans (View.setOn_subset_set _ _))) $$ H
  iintro H
  have e1 : (m.access (.whole s)).read (Elt F) f = v := by
    rw [← hf]; funext y
    show m.view.read (Elt F) f ((Rect.whole s).emb y) = _
    congr 1
    funext a; exact Fin.ext (by show 0 + 1 * (y a).val = (y a).val; omega)
  rw [e1]
  iapply HK
  iexists f
  isplitr
  · ipureintro; exact hf
  · iapply (show ((m.access (.whole s)).loc (V d c w) ↦[m.view.set]{fullShare} f : sProp 𝕄) ⊢ m.view.loc (V d c w) ↦[m.view.set]{fullShare} f from .rfl)
    iexact H

end Holds

end Cert.Proof
-- ==== Proof.Inner.lean ====
/-
  The two inner loops of one pair, proved for any buffers of the right shapes: the subtraction of the target rows from
  the input rows, and the sixty-four channels of gathered squares.
-/
module

public import proofs.«01_k».proof.Proof.Setup
public import Idealize.ShloMosaic.Lib.WordArith.Masks

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F] (d : Dev nD) (i : grid0.Coords)

abbrev cV (i : grid0.Coords) : Fin τ.nSC := (i 0).castLE hcore0
abbrev sV (i : grid0.Coords) : Fin τ.nSub := (i 1).castLE hsub0

section Trips

variable (a2 : Memref sig .scVector .hbm S1024x128x128 .f32) (h2 : a2.IsWhole) (a3 : Memref sig .scVector .hbm S1024x128x128 .f32) (h3 : a3.IsWhole)
  (a4 : Memref sig .scVector .hbm S1024x64x128 .i32) (h4 : a4.IsWhole) (a5 : Memref sig .scVector .hbm S32x16 .f32) (h5 : a5.IsWhole)
  (a6 : Memref sig .scVector .vmem S128x65 .f32) (h6 : a6.IsWhole) (a7 : Memref sig .scVector .vmem S128x65 .f32) (h7 : a7.IsWhole)
  (a8 : Memref sig .scVector .vmem S64x128 .i32) (h8 : a8.IsWhole) (a9 : Memref sig .scVector .vmem S128x65 .f32) (h9 : a9.IsWhole)
  (a10 : Memref sig .scVector .vmem S128x65 .f32) (h10 : a10.IsWhole) (a11 : Memref sig .scVector .vmem S64x128 .i32) (h11 : a11.IsWhole)
  (a12 : Memref sig .scVector .vmem S16 .f32) (h12 : a12.IsWhole) (a13 a14 a15 a16 a17 : DmaSems sig S_)

/-- One row of the subtraction: its four groups of sixteen columns. -/
theorem sub_trip (v2 c0 c1 : BitVec 32) (k1 : Fin k0_t1_loop.trips) (a18 : FVec F S16 .f32) (v t : S128x65.Idx → F .f32)
    (k : Fin k0_t2_loop.trips) (u : Unit) :
    iprop(Holds d (cV i) (sV i) a6 (subN v t (4 * k.val)) ∗ Holds d (cV i) (sV i) a7 t)
      ⊢ wpV d (cV i) (sV i) (k0_t2_body i a2 h2 a3 h3 a4 h4 a5 h5 a6 h6 a7 h7 a8 h8 a9 h9 a10 h10 a11 h11 a12 h12 a13 a14 a15 a16 a17 v2 c0 c1 k1 a18 k u)
          fun _ => iprop(Holds d (cV i) (sV i) a6 (subN v t (4 * (k.val + 1))) ∗ Holds d (cV i) (sV i) a7 t) := by
  have hk : k.val < 128 := lt_of_lt_of_le k.isLt k0_t2_abs.2.1
  have e0 : k0_off7 k = ![k.val, 16 * 0] := k0_off7_eq k
  have e1 : k0_off8 k = ![k.val, 16 * 1] := k0_off8_eq k
  have e2 : k0_off9 k = ![k.val, 16 * 2] := k0_off9_eq k
  have e3 : k0_off10 k = ![k.val, 16 * 3] := k0_off10_eq k
  have b0 := e0 ▸ k0_off7_inb k
  have b1 := e1 ▸ k0_off8_inb k
  have b2 := e2 ▸ k0_off9_inb k
  have b3 := e3 ▸ k0_off10_inb k
  unfold k0_t2_body
  rw [k0_part1_eq_skeleton]; unfold k0_part1_skel
  simp only [Prog.lift, Prog.bind_op, Prog.bind_ret, Prog.pure_eq_ret]
  rw [show (k0_pay3 (F := F)) = k0_pay2 from rfl, show (k0_pay4 (F := F)) = k0_pay2 from rfl, show (k0_pay5 (F := F)) = k0_pay2 from rfl]
  rw [show 4 * (k.val + 1) = 4 * k.val + 1 + 1 + 1 + 1 by omega]
  iintro ⟨Hv, Ht⟩
  iapply (wp_load_holds d (cV i) (sV i) e0 b0) $$ Hv; iintro Hv
  iapply (wp_load_holds d (cV i) (sV i) e0 b0) $$ Ht; iintro Ht
  iapply (wp_load_holds d (cV i) (sV i) e0 b0) $$ Hv; iintro Hv
  iapply (wp_store_holds d (cV i) (sV i) e0) $$ Hv; iintro Hv
  rw [put_subN v t (4 * k.val) k.val 0 (by omega) (by omega) b0]
  iapply (wp_load_holds d (cV i) (sV i) e1 b1) $$ Hv; iintro Hv
  iapply (wp_load_holds d (cV i) (sV i) e1 b1) $$ Ht; iintro Ht
  iapply (wp_load_holds d (cV i) (sV i) e1 b1) $$ Hv; iintro Hv
  iapply (wp_store_holds d (cV i) (sV i) e1) $$ Hv; iintro Hv
  rw [put_subN v t (4 * k.val + 1) k.val 1 (by omega) (by omega) b1]
  iapply (wp_load_holds d (cV i) (sV i) e2 b2) $$ Hv; iintro Hv
  iapply (wp_load_holds d (cV i) (sV i) e2 b2) $$ Ht; iintro Ht
  iapply (wp_load_holds d (cV i) (sV i) e2 b2) $$ Hv; iintro Hv
  iapply (wp_store_holds d (cV i) (sV i) e2) $$ Hv; iintro Hv
  rw [put_subN v t (4 * k.val + 1 + 1) k.val 2 (by omega) (by omega) b2]
  iapply (wp_load_holds d (cV i) (sV i) e3 b3) $$ Hv; iintro Hv
  iapply (wp_load_holds d (cV i) (sV i) e3 b3) $$ Ht; iintro Ht
  iapply (wp_load_holds d (cV i) (sV i) e3 b3) $$ Hv; iintro Hv
  iapply (wp_store_holds d (cV i) (sV i) e3) $$ Hv; iintro Hv
  rw [put_subN v t (4 * k.val + 1 + 1 + 1) k.val 3 (by omega) (by omega) b3]
  rw [wpV, wp_ret]; imodintro
  isplitl [Hv]
  · iexact Hv
  · iexact Ht

/-- One channel: eight index loads, eight gathers, eight squares added. -/
theorem chan_trip (v2 c0 c1 : BitVec 32) (k1 : Fin k0_t1_loop.trips) (a18 : FVec F S16 .f32) (e : S128x65.Idx → F .f32) (x : S64x128.Idx → BitVec 32)
    (hx : ∀ y, (x y).toNat < 128) (k : Fin k0_t3_loop.trips) (acc : FVec F S16 .f32) :
    iprop(Holds d (cV i) (sV i) a6 e ∗ Holds (F := F) d (cV i) (sV i) a8 x)
      ⊢ wpV d (cV i) (sV i) (k0_t3_body i a2 h2 a3 h3 a4 h4 a5 h5 a6 h6 a7 h7 a8 h8 a9 h9 a10 h10 a11 h11 a12 h12 a13 a14 a15 a16 a17 v2 c0 c1 k1 a18 k acc)
          fun r => iprop(⌜r = chan (gat e x k.val) acc⌝ ∗ Holds d (cV i) (sV i) a6 e ∗ Holds (F := F) d (cV i) (sV i) a8 x) := by
  have hk : k.val < 64 := lt_of_lt_of_le k.isLt k0_t3_abs.2.1
  have e0 : k0_off11 k = ![k.val, 16 * 0] := k0_off11_eq k
  have b0 := e0 ▸ k0_off11_inb k
  have e1 : k0_off12 k = ![k.val, 16 * 1] := k0_off12_eq k
  have b1 := e1 ▸ k0_off12_inb k
  have e2 : k0_off13 k = ![k.val, 16 * 2] := k0_off13_eq k
  have b2 := e2 ▸ k0_off13_inb k
  have e3 : k0_off14 k = ![k.val, 16 * 3] := k0_off14_eq k
  have b3 := e3 ▸ k0_off14_inb k
  have e4 : k0_off15 k = ![k.val, 16 * 4] := k0_off15_eq k
  have b4 := e4 ▸ k0_off15_inb k
  have e5 : k0_off16 k = ![k.val, 16 * 5] := k0_off16_eq k
  have b5 := e5 ▸ k0_off16_inb k
  have e6 : k0_off17 k = ![k.val, 16 * 6] := k0_off17_eq k
  have b6 := e6 ▸ k0_off17_inb k
  have e7 : k0_off18 k = ![k.val, 16 * 7] := k0_off18_eq k
  have b7 := e7 ▸ k0_off18_inb k
  have hiv : (Scf.iv 0#32 1#32 k.val).toNat = k.val := by
    have hk := hk
    exact WordArith.toNat_iv_zero_one k.val (by omega)
  have hlt : ∀ g (b : ∀ a, (![k.val, 16 * g] : Fin 2 → ℕ) a + S1x16.size a ≤ S64x128.size a) (a : Fin 2) (l : S16.Idx),
      ((![shapeCast S16 (VecWindow.window x ![k.val, 16 * g] S1x16.size b : S1x16.Idx → BitVec 32) shapeCasts_S1x16_S16,
        broadcast S16 (Scf.iv 0#32 1#32 k.val)] : Fin 2 → IVec S16 32) a l).toNat < S128x65.size a := by
    intro g b a l
    match a with
    | ⟨0, _⟩ => show (shapeCast S16 (VecWindow.window x ![k.val, 16 * g] S1x16.size b : S1x16.Idx → BitVec 32) shapeCasts_S1x16_S16 l).toNat < 128; rw [row_lane]; exact hx _
    | ⟨1, _⟩ => show (Scf.iv 0#32 1#32 k.val).toNat < 65; omega
  unfold k0_t3_body
  rw [k0_part2_eq_skeleton]; unfold k0_part2_skel
  simp only [Prog.lift, Prog.bind_op, Prog.bind_ret, Prog.pure_eq_ret, bind_assoc]
  iintro ⟨He, Hx⟩
  iapply (wp_load_holds d (cV i) (sV i) e0 b0) $$ Hx; iintro Hx
  iapply (wp_assume 𝒱₀ _ none Set.univ (show k0_chk1 (broadcast S16 (Scf.iv 0#32 1#32 k.val)) (shapeCast S16 (VecWindow.window x ![k.val, 16 * 0] S1x16.size b0 : S1x16.Idx → BitVec 32) shapeCasts_S1x16_S16) by rw [k0_chk1.eq_1]; exact hlt 0 b0))
  iapply (wp_gather_holds d (cV i) (sV i)) $$ He; iintro He
  rw [loadIdx_gat e x k.val 0 hk _ (broadcast S16 (Scf.iv 0#32 1#32 k.val)) (row_lane x k.val 0 b0) (fun _ => hiv)]
  iapply (wp_load_holds d (cV i) (sV i) e1 b1) $$ Hx; iintro Hx
  iapply (wp_assume 𝒱₀ _ none Set.univ (show k0_chk2 (broadcast S16 (Scf.iv 0#32 1#32 k.val)) (shapeCast S16 (VecWindow.window x ![k.val, 16 * 1] S1x16.size b1 : S1x16.Idx → BitVec 32) shapeCasts_S1x16_S16) by rw [k0_chk2.eq_1]; exact hlt 1 b1))
  iapply (wp_gather_holds d (cV i) (sV i)) $$ He; iintro He
  rw [loadIdx_gat e x k.val 1 hk _ (broadcast S16 (Scf.iv 0#32 1#32 k.val)) (row_lane x k.val 1 b1) (fun _ => hiv)]
  iapply (wp_load_holds d (cV i) (sV i) e2 b2) $$ Hx; iintro Hx
  iapply (wp_assume 𝒱₀ _ none Set.univ (show k0_chk3 (broadcast S16 (Scf.iv 0#32 1#32 k.val)) (shapeCast S16 (VecWindow.window x ![k.val, 16 * 2] S1x16.size b2 : S1x16.Idx → BitVec 32) shapeCasts_S1x16_S16) by rw [k0_chk3.eq_1]; exact hlt 2 b2))
  iapply (wp_gather_holds d (cV i) (sV i)) $$ He; iintro He
  rw [loadIdx_gat e x k.val 2 hk _ (broadcast S16 (Scf.iv 0#32 1#32 k.val)) (row_lane x k.val 2 b2) (fun _ => hiv)]
  iapply (wp_load_holds d (cV i) (sV i) e3 b3) $$ Hx; iintro Hx
  iapply (wp_assume 𝒱₀ _ none Set.univ (show k0_chk4 (broadcast S16 (Scf.iv 0#32 1#32 k.val)) (shapeCast S16 (VecWindow.window x ![k.val, 16 * 3] S1x16.size b3 : S1x16.Idx → BitVec 32) shapeCasts_S1x16_S16) by rw [k0_chk4.eq_1]; exact hlt 3 b3))
  iapply (wp_gather_holds d (cV i) (sV i)) $$ He; iintro He
  rw [loadIdx_gat e x k.val 3 hk _ (broadcast S16 (Scf.iv 0#32 1#32 k.val)) (row_lane x k.val 3 b3) (fun _ => hiv)]
  iapply (wp_load_holds d (cV i) (sV i) e4 b4) $$ Hx; iintro Hx
  iapply (wp_assume 𝒱₀ _ none Set.univ (show k0_chk5 (broadcast S16 (Scf.iv 0#32 1#32 k.val)) (shapeCast S16 (VecWindow.window x ![k.val, 16 * 4] S1x16.size b4 : S1x16.Idx → BitVec 32) shapeCasts_S1x16_S16) by rw [k0_chk5.eq_1]; exact hlt 4 b4))
  iapply (wp_gather_holds d (cV i) (sV i)) $$ He; iintro He
  rw [loadIdx_gat e x k.val 4 hk _ (broadcast S16 (Scf.iv 0#32 1#32 k.val)) (row_lane x k.val 4 b4) (fun _ => hiv)]
  iapply (wp_load_holds d (cV i) (sV i) e5 b5) $$ Hx; iintro Hx
  iapply (wp_assume 𝒱₀ _ none Set.univ (show k0_chk6 (broadcast S16 (Scf.iv 0#32 1#32 k.val)) (shapeCast S16 (VecWindow.window x ![k.val, 16 * 5] S1x16.size b5 : S1x16.Idx → BitVec 32) shapeCasts_S1x16_S16) by rw [k0_chk6.eq_1]; exact hlt 5 b5))
  iapply (wp_gather_holds d (cV i) (sV i)) $$ He; iintro He
  rw [loadIdx_gat e x k.val 5 hk _ (broadcast S16 (Scf.iv 0#32 1#32 k.val)) (row_lane x k.val 5 b5) (fun _ => hiv)]
  iapply (wp_load_holds d (cV i) (sV i) e6 b6) $$ Hx; iintro Hx
  iapply (wp_assume 𝒱₀ _ none Set.univ (show k0_chk7 (broadcast S16 (Scf.iv 0#32 1#32 k.val)) (shapeCast S16 (VecWindow.window x ![k.val, 16 * 6] S1x16.size b6 : S1x16.Idx → BitVec 32) shapeCasts_S1x16_S16) by rw [k0_chk7.eq_1]; exact hlt 6 b6))
  iapply (wp_gather_holds d (cV i) (sV i)) $$ He; iintro He
  rw [loadIdx_gat e x k.val 6 hk _ (broadcast S16 (Scf.iv 0#32 1#32 k.val)) (row_lane x k.val 6 b6) (fun _ => hiv)]
  iapply (wp_load_holds d (cV i) (sV i) e7 b7) $$ Hx; iintro Hx
  iapply (wp_assume 𝒱₀ _ none Set.univ (show k0_chk8 (broadcast S16 (Scf.iv 0#32 1#32 k.val)) (shapeCast S16 (VecWindow.window x ![k.val, 16 * 7] S1x16.size b7 : S1x16.Idx → BitVec 32) shapeCasts_S1x16_S16) by rw [k0_chk8.eq_1]; exact hlt 7 b7))
  iapply (wp_gather_holds d (cV i) (sV i)) $$ He; iintro He
  rw [loadIdx_gat e x k.val 7 hk _ (broadcast S16 (Scf.iv 0#32 1#32 k.val)) (row_lane x k.val 7 b7) (fun _ => hiv)]
  rw [wpV, wp_ret]; imodintro
  isplitr
  · ipureintro; rfl
  isplitl [He]
  · iexact He
  · iexact Hx

/-- The second buffer set's subtraction is the first's, on the second set's buffers. -/
theorem t4_eq (v2 c0 c1 v40 v41 v63 : BitVec 32) (k1 : Fin k0_t1_loop.trips) (a18 v62 : FVec F S16 .f32) :
    k0_t4_body i a2 h2 a3 h3 a4 h4 a5 h5 a6 h6 a7 h7 a8 h8 a9 h9 a10 h10 a11 h11 a12 h12 a13 a14 a15 a16 a17 k1 v40 v41 v62 v63
      = k0_t2_body (F := F) i a2 h2 a3 h3 a4 h4 a5 h5 a9 h9 a10 h10 a11 h11 a9 h9 a10 h10 a11 h11 a12 h12 a13 a14 a15 a16 a17 v2 c0 c1 k1 a18 := rfl

/-- The second buffer set's channels are the first's, on the second set's buffers. -/
theorem t5_eq (v2 c0 c1 v40 v41 v63 : BitVec 32) (k1 : Fin k0_t1_loop.trips) (a18 v62 : FVec F S16 .f32) :
    k0_t5_body i a2 h2 a3 h3 a4 h4 a5 h5 a6 h6 a7 h7 a8 h8 a9 h9 a10 h10 a11 h11 a12 h12 a13 a14 a15 a16 a17 k1 v40 v41 v62 v63
      = k0_t3_body (F := F) i a2 h2 a3 h3 a4 h4 a5 h5 a9 h9 a10 h10 a11 h11 a9 h9 a10 h10 a11 h11 a12 h12 a13 a14 a15 a16 a17 v2 c0 c1 k1 a18 := rfl

theorem trips2 : k0_t2_loop.trips = 128 := by decide
theorem trips3 : k0_t3_loop.trips = 64 := by decide

/-- The whole subtraction, at the head of a program. -/
theorem sub_loop {β : Type} {Q : β → sProp 𝕄} (v2 c0 c1 : BitVec 32) (k1 : Fin k0_t1_loop.trips) (a18 : FVec F S16 .f32) (v t : S128x65.Idx → F .f32)
    (kk : Unit → Prog (TpuEff nD τ sig (Elt F) Λ₀ (.scVector (cV i) (sV i))) β) :
    iprop(Holds d (cV i) (sV i) a6 v ∗ Holds d (cV i) (sV i) a7 t)
      ⊢ iprop((iprop(Holds d (cV i) (sV i) a6 (subN v t 512) ∗ Holds d (cV i) (sV i) a7 t) -∗ wpV d (cV i) (sV i) (kk ⟨⟩) Q)
        -∗ wpV d (cV i) (sV i) (Scf.Loop.for k0_t2_loop k0_t2_ok ⟨⟩ (k0_t2_body i a2 h2 a3 h3 a4 h4 a5 h5 a6 h6 a7 h7 a8 h8 a9 h9 a10 h10 a11 h11 a12 h12 a13 a14 a15 a16 a17 v2 c0 c1 k1 a18) >>= kk) Q) := by
  have h := Scf.wp_for_bind frame (wpE (defs₀ (F := F)) 𝒱₀ (V d (cV i) (sV i)) none) Set.univ k0_t2_loop.lb k0_t2_loop.ub k0_t2_loop.st k0_t2_ok ⟨⟩
    (k0_t2_body i a2 h2 a3 h3 a4 h4 a5 h5 a6 h6 a7 h7 a8 h8 a9 h9 a10 h10 a11 h11 a12 h12 a13 a14 a15 a16 a17 v2 c0 c1 k1 a18)
    (fun n _ => iprop(Holds d (cV i) (sV i) a6 (subN v t (4 * n)) ∗ Holds d (cV i) (sV i) a7 t))
    (fun k acc => sub_trip d i a2 h2 a3 h3 a4 h4 a5 h5 a6 h6 a7 h7 a8 h8 a9 h9 a10 h10 a11 h11 a12 h12 a13 a14 a15 a16 a17 v2 c0 c1 k1 a18 v t k acc) (kk := kk) (Q := Q)
  rw [show Scf.trips k0_t2_loop.lb k0_t2_loop.ub k0_t2_loop.st = 128 from trips2, subN_zero] at h
  refine h.trans ?_
  iintro H HK
  iapply H
  iintro %_ H
  iapply HK; iexact H

/-- The whole of the channels, at the head of a program. -/
theorem chan_loop {β : Type} {Q : β → sProp 𝕄} (v2 c0 c1 : BitVec 32) (k1 : Fin k0_t1_loop.trips) (a18 : FVec F S16 .f32) (e : S128x65.Idx → F .f32) (x : S64x128.Idx → BitVec 32)
    (hx : ∀ y, (x y).toNat < 128) (acc : FVec F S16 .f32) (kk : FVec F S16 .f32 → Prog (TpuEff nD τ sig (Elt F) Λ₀ (.scVector (cV i) (sV i))) β) :
    iprop(Holds d (cV i) (sV i) a6 e ∗ Holds (F := F) d (cV i) (sV i) a8 x)
      ⊢ iprop((iprop(Holds d (cV i) (sV i) a6 e ∗ Holds (F := F) d (cV i) (sV i) a8 x) -∗ wpV d (cV i) (sV i) (kk (chans (gat e x) acc 64)) Q)
        -∗ wpV d (cV i) (sV i) (Scf.Loop.for k0_t3_loop k0_t3_ok acc (k0_t3_body i a2 h2 a3 h3 a4 h4 a5 h5 a6 h6 a7 h7 a8 h8 a9 h9 a10 h10 a11 h11 a12 h12 a13 a14 a15 a16 a17 v2 c0 c1 k1 a18) >>= kk) Q) := by
  have h := Scf.wp_for_bind frame (wpE (defs₀ (F := F)) 𝒱₀ (V d (cV i) (sV i)) none) Set.univ k0_t3_loop.lb k0_t3_loop.ub k0_t3_loop.st k0_t3_ok acc
    (k0_t3_body i a2 h2 a3 h3 a4 h4 a5 h5 a6 h6 a7 h7 a8 h8 a9 h9 a10 h10 a11 h11 a12 h12 a13 a14 a15 a16 a17 v2 c0 c1 k1 a18)
    (fun n r => iprop(⌜r = chans (gat e x) acc n⌝ ∗ Holds d (cV i) (sV i) a6 e ∗ Holds (F := F) d (cV i) (sV i) a8 x))
    (fun k r => by
      iintro ⟨%hr, H⟩
      subst hr
      iapply (chan_trip d i a2 h2 a3 h3 a4 h4 a5 h5 a6 h6 a7 h7 a8 h8 a9 h9 a10 h10 a11 h11 a12 h12 a13 a14 a15 a16 a17 v2 c0 c1 k1 a18 e x hx k (chans (gat e x) acc k.val)); iexact H) (kk := kk) (Q := Q)
  rw [show Scf.trips k0_t3_loop.lb k0_t3_loop.ub k0_t3_loop.st = 64 from trips3] at h
  iintro H HK
  ihave H' := h $$ [H]
  · isplitr
    · ipureintro; rfl
    · iexact H
  iapply H'
  iintro %r ⟨%hr, H⟩
  subst hr
  iapply HK; iexact H

/-- The second set's subtraction, at the head of a program. -/
theorem sub_loop' {β : Type} {Q : β → sProp 𝕄} (v40 v41 v63 : BitVec 32) (k1 : Fin k0_t1_loop.trips) (v62 : FVec F S16 .f32) (v t : S128x65.Idx → F .f32)
    (kk : Unit → Prog (TpuEff nD τ sig (Elt F) Λ₀ (.scVector (cV i) (sV i))) β) :
    iprop(Holds d (cV i) (sV i) a9 v ∗ Holds d (cV i) (sV i) a10 t)
      ⊢ iprop((iprop(Holds d (cV i) (sV i) a9 (subN v t 512) ∗ Holds d (cV i) (sV i) a10 t) -∗ wpV d (cV i) (sV i) (kk ⟨⟩) Q)
        -∗ wpV d (cV i) (sV i) (Scf.Loop.for k0_t4_loop k0_t4_ok ⟨⟩ (k0_t4_body i a2 h2 a3 h3 a4 h4 a5 h5 a6 h6 a7 h7 a8 h8 a9 h9 a10 h10 a11 h11 a12 h12 a13 a14 a15 a16 a17 k1 v40 v41 v62 v63) >>= kk) Q) :=
  sub_loop d i a2 h2 a3 h3 a4 h4 a5 h5 a9 h9 a10 h10 a11 h11 a9 h9 a10 h10 a11 h11 a12 h12 a13 a14 a15 a16 a17 v40 v40 v40 k1 v62 v t kk

/-- The second set's channels, at the head of a program. -/
theorem chan_loop' {β : Type} {Q : β → sProp 𝕄} (v40 v41 v63 : BitVec 32) (k1 : Fin k0_t1_loop.trips) (v62 : FVec F S16 .f32) (e : S128x65.Idx → F .f32) (x : S64x128.Idx → BitVec 32)
    (hx : ∀ y, (x y).toNat < 128) (acc : FVec F S16 .f32) (kk : FVec F S16 .f32 → Prog (TpuEff nD τ sig (Elt F) Λ₀ (.scVector (cV i) (sV i))) β) :
    iprop(Holds d (cV i) (sV i) a9 e ∗ Holds (F := F) d (cV i) (sV i) a11 x)
      ⊢ iprop((iprop(Holds d (cV i) (sV i) a9 e ∗ Holds (F := F) d (cV i) (sV i) a11 x) -∗ wpV d (cV i) (sV i) (kk (chans (gat e x) acc 64)) Q)
        -∗ wpV d (cV i) (sV i) (Scf.Loop.for k0_t5_loop k0_t5_ok acc (k0_t5_body i a2 h2 a3 h3 a4 h4 a5 h5 a6 h6 a7 h7 a8 h8 a9 h9 a10 h10 a11 h11 a12 h12 a13 a14 a15 a16 a17 k1 v40 v41 v62 v63) >>= kk) Q) :=
  chan_loop d i a2 h2 a3 h3 a4 h4 a5 h5 a9 h9 a10 h10 a11 h11 a9 h9 a10 h10 a11 h11 a12 h12 a13 a14 a15 a16 a17 v40 v40 v40 k1 v62 e x hx acc kk

end Trips

end Cert.Proof
-- ==== Proof.Copies.lean ====
/-
  The copies of one pair into one set of buffers: what starting them needs and what waiting for them returns.

  A set of buffers is two value buffers, filled by two copies on one semaphore, and an index buffer filled by a copy on a
  semaphore of its own. While the copies of a pair are in flight the buffers and the rows they are filled from are lent;
  the rest of the three arrays stays at hand. After the waits the buffers hold the rows of that pair.
-/
module

public import proofs.«01_k».proof.Proof.Setup

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The rows of an image array a copy reads: one pair, every row, the first 64 columns. -/
abbrev rowsOf (a : Memref sig .scVector .hbm S1024x128x128 .f32) (off : Fin 3 → ℕ) (inb : ∀ x, off x + S1x128x64.size x ≤ S1024x128x128.size x) :
    Memref sig .scVector .hbm S128x64 .f32 :=
  (a.slice (Rect.unit (s := S1024x128x128) off S1x128x64.size inb) (fun _ => rfl)).squeeze S128x64 squeezes_S1x128x64_S128x64

/-- The indices of one pair. -/
abbrev rowsX (a : Memref sig .scVector .hbm S1024x64x128 .i32) (off : Fin 3 → ℕ) (inb : ∀ x, off x + S1x64x128.size x ≤ S1024x64x128.size x) :
    Memref sig .scVector .hbm S64x128 .i32 :=
  (a.slice (Rect.unit (s := S1024x64x128) off S1x64x128.size inb) (fun _ => rfl)).squeeze S64x128 squeezes_S1x64x128_S64x128

/-- The first 64 columns of a padded buffer. -/
abbrev leftOf (m : Memref sig .scVector .vmem S128x65 .f32) : Memref sig .scVector .vmem S128x64 .f32 :=
  m.slice (Rect.unit (s := S128x65) ![0, 0] S128x64.size inb_S128x65_S128x64_0_0) (fun _ => rfl)

/-- Where the rows of pair `p` start. -/
abbrev pOff (p : ℕ) : Fin 3 → ℕ := ![p % 1024, 0, 0]

theorem pInb (p : ℕ) : ∀ x, pOff p x + S1x128x64.size x ≤ S1024x128x128.size x := by
  have : p % 1024 < 1024 := Nat.mod_lt _ (by decide)
  intro x
  match x with
  | ⟨0, _⟩ => show p % 1024 + 1 ≤ 1024; omega
  | ⟨1, _⟩ => show 0 + 128 ≤ 128; omega
  | ⟨2, _⟩ => show 0 + 64 ≤ 128; omega

theorem pInbX (p : ℕ) : ∀ x, pOff p x + S1x64x128.size x ≤ S1024x64x128.size x := by
  have : p % 1024 < 1024 := Nat.mod_lt _ (by decide)
  intro x
  match x with
  | ⟨0, _⟩ => show p % 1024 + 1 ≤ 1024; omega
  | ⟨1, _⟩ => show 0 + 64 ≤ 64; omega
  | ⟨2, _⟩ => show 0 + 128 ≤ 128; omega

/-- A read of the rows of pair `p` is a read of the array at that pair. -/
theorem read_rowsOf (a : Memref sig .scVector .hbm S1024x128x128 .f32) (f : a.view.ty.Contents (Elt F)) (p q j : ℕ) (hj : j < 64) :
    (rowsOf a (pOff p) (pInb p)).view.read (Elt F) f (ix2 (⟨q % 128, Nat.mod_lt _ (by decide)⟩ : Fin 128) (⟨j, hj⟩ : Fin 64))
      = a.view.read (Elt F) f (at3 p q j) := by
  show a.view.read (Elt F) f ((Rect.unit (s := S1024x128x128) (pOff p) S1x128x64.size (pInb p)).emb
    (Shape.reshapeEquiv squeezes_S1x128x64_S128x64.numel_eq (ix2 (⟨q % 128, Nat.mod_lt _ (by decide)⟩ : Fin 128) (⟨j, hj⟩ : Fin 64)))) = _
  rw [reshapeEquiv_ix2_1ab]
  congr 1
  funext x
  match x with
  | ⟨0, _⟩ => exact Fin.ext (by show p % 1024 + 1 * 0 = p % 1024; omega)
  | ⟨1, _⟩ => exact Fin.ext (by show 0 + 1 * (q % 128) = q % 128; omega)
  | ⟨2, _⟩ => exact Fin.ext (by show 0 + 1 * j = j % 128; omega)

/-- The same for the indices. -/
theorem read_rowsX (a : Memref sig .scVector .hbm S1024x64x128 .i32) (f : a.view.ty.Contents (Elt F)) (p i l : ℕ) :
    (rowsX a (pOff p) (pInbX p)).view.read (Elt F) f (atX i l) = a.view.read (Elt F) f (at3X p i l) := by
  show a.view.read (Elt F) f ((Rect.unit (s := S1024x64x128) (pOff p) S1x64x128.size (pInbX p)).emb
    (Shape.reshapeEquiv squeezes_S1x64x128_S64x128.numel_eq (ix2 (⟨i % 64, Nat.mod_lt _ (by decide)⟩ : Fin 64) (⟨l % 128, Nat.mod_lt _ (by decide)⟩ : Fin 128)))) = _
  rw [reshapeEquiv_ix2_1ab]
  congr 1
  funext x
  match x with
  | ⟨0, _⟩ => exact Fin.ext (by show p % 1024 + 1 * 0 = p % 1024; omega)
  | ⟨1, _⟩ => exact Fin.ext (by show 0 + 1 * (i % 64) = i % 64; omega)
  | ⟨2, _⟩ => exact Fin.ext (by show 0 + 1 * (l % 128) = l % 128; omega)

/-- A value buffer over whose first 64 columns the rows of pair `p` were written holds that pair. -/
theorem brought_write (a : Memref sig .scVector .hbm S1024x128x128 .f32) (f : a.view.ty.Contents (Elt F)) (m : Memref sig .scVector .vmem S128x65 .f32)
    (g : m.view.ty.Contents (Elt F)) (p : ℕ) :
    Brought (a.view.read (Elt F) f) p
      (m.view.read (Elt F) ((leftOf m).view.write (Elt F) g ((rowsOf a (pOff p) (pInb p)).view.read (Elt F) f) Finset.univ)) := by
  intro q j hj
  have e : at2 q j = (Rect.unit (s := S128x65) ![0, 0] S128x64.size inb_S128x65_S128x64_0_0).emb
      (ix2 (⟨q % 128, Nat.mod_lt _ (by decide)⟩ : Fin 128) (⟨j, hj⟩ : Fin 64) : S128x64.Idx) := by
    funext x
    match x with
    | ⟨0, _⟩ => exact Fin.ext (by show q % 128 = 0 + 1 * (q % 128); omega)
    | ⟨1, _⟩ => exact Fin.ext (by show j % 65 = 0 + 1 * j; omega)
  rw [e]
  exact (View.read_slice_write_emb (v := m.view) _ g _ (Finset.mem_univ _)).trans (read_rowsOf a f p q j hj)

section Sets

/-- One set of buffers with its two semaphores. -/
structure Bufs where
  mi : Memref sig .scVector .vmem S128x65 .f32
  mt : Memref sig .scVector .vmem S128x65 .f32
  mx : Memref sig .scVector .vmem S64x128 .i32
  sV : DmaSem sig
  sX : DmaSem sig
  same : (leftOf mt).view.dmaCredit = (leftOf mi).view.dmaCredit

variable (F) in
/-- The three arrays a tile reads, with what they hold. -/
structure Srcs (d : Dev nD) (c : Fin τ.nSC) (w : Fin τ.nSub) where
  a2 : Memref sig .scVector .hbm S1024x128x128 .f32
  a3 : Memref sig .scVector .hbm S1024x128x128 .f32
  a4 : Memref sig .scVector .hbm S1024x64x128 .i32
  f2 : Buf (Elt F) (a2.view.loc (V d c w))
  f3 : Buf (Elt F) (a3.view.loc (V d c w))
  f4 : Buf (Elt F) (a4.view.loc (V d c w))

variable {d : Dev nD} {c : Fin τ.nSC} {w : Fin τ.nSub}

/-- The input images, as read. -/
abbrev Srcs.A (R : Srcs F d c w) : S1024x128x128.Idx → Elt F .f32 := R.a2.view.read (Elt F) R.f2
/-- The target images, as read. -/
abbrev Srcs.T (R : Srcs F d c w) : S1024x128x128.Idx → Elt F .f32 := R.a3.view.read (Elt F) R.f3
/-- The indices, as read. -/
abbrev Srcs.X (R : Srcs F d c w) : S1024x64x128.Idx → Elt F .i32 := R.a4.view.read (Elt F) R.f4

/-- A buffer holding the rows of pair `p`, together with the rows lent to the copy. -/
def Landed (a : Memref sig .scVector .hbm S1024x128x128 .f32) (f : Buf (Elt F) (a.view.loc (V d c w))) (q : PosShare TreeShare)
    (m : Memref sig .scVector .vmem S128x65 .f32) (p : ℕ) : sProp 𝕄 :=
  iprop((∃ v, ⌜Brought (a.view.read (Elt F) f) p v⌝ ∗ Holds d c w m v)
    ∗ a.view.loc (V d c w) ↦[(rowsOf a (pOff p) (pInb p)).view.set]{q} f)

/-- The same for an index buffer. -/
def LandedX (a : Memref sig .scVector .hbm S1024x64x128 .i32) (f : Buf (Elt F) (a.view.loc (V d c w))) (q : PosShare TreeShare)
    (m : Memref sig .scVector .vmem S64x128 .i32) (p : ℕ) : sProp 𝕄 :=
  iprop((∃ v, ⌜BroughtX (a.view.read (Elt F) f) p v⌝ ∗ Holds d c w m v)
    ∗ a.view.loc (V d c w) ↦[(rowsX a (pOff p) (pInbX p)).view.set]{q} f)

/-- What the two value copies of pair `p` deliver. -/
def delivers (B : Bufs) (R : Srcs F d c w) (q : PosShare TreeShare) (p : ℕ) : Fin 2 → sProp 𝕄 :=
  ![Landed R.a2 R.f2 q B.mi p, Landed R.a3 R.f3 q B.mt p]

instance (B : Bufs) (R : Srcs F d c w) (q : PosShare TreeShare) (p : ℕ) (t : Fin 2) :
    Storable (upEmb : UEmb _ 𝕄) (delivers B R q p t) := by
  match t with
  | ⟨0, _⟩ => show Storable _ (Landed R.a2 R.f2 q B.mi p); unfold Landed Holds; infer_instance
  | ⟨1, _⟩ => show Storable _ (Landed R.a3 R.f3 q B.mt p); unfold Landed Holds; infer_instance

/-- The rest of an array, outside the rows in `I`. -/
abbrev Rest {s : Shape} {e : EltTy} (a : Memref sig .scVector .hbm s e) (f : Buf (Elt F) (a.view.loc (V d c w))) (q : PosShare TreeShare)
    (I : Finset (Idx (a.view.loc (V d c w)))) : sProp 𝕄 :=
  a.view.loc (V d c w) ↦[a.view.set \ I]{q} f

/-- An array held whole at a share. -/
abbrev Src {s : Shape} {e : EltTy} (a : Memref sig .scVector .hbm s e) (f : Buf (Elt F) (a.view.loc (V d c w))) (q : PosShare TreeShare) : sProp 𝕄 :=
  a.view.loc (V d c w) ↦[a.view.set]{q} f

/-- The copies of pair `p` are in flight. -/
def InFlight (B : Bufs) (R : Srcs F d c w) (q : PosShare TreeShare) (p : ℕ) : sProp 𝕄 :=
  iprop(Transfers.Batch EC (V d c w) (.dma B.sV) none (leftOf B.mi).view.dmaCredit (delivers B R q p) 2 0
    ∗ Transfers.Flight EC (V d c w) (.dma B.sX) none B.mx.view.dmaCredit (LandedX R.a4 R.f4 q B.mx p)
    ∗ Rest R.a2 R.f2 q (rowsOf R.a2 (pOff p) (pInb p)).view.set
    ∗ Rest R.a3 R.f3 q (rowsOf R.a3 (pOff p) (pInb p)).view.set
    ∗ Rest R.a4 R.f4 q (rowsX R.a4 (pOff p) (pInbX p)).view.set)

/-- No copy is in flight: the arrays are whole and the semaphores at zero. -/
def Quiet (B : Bufs) (R : Srcs F d c w) (q : PosShare TreeShare) : sProp 𝕄 :=
  iprop(semVal (V d c w, .dma B.sV) 0 ∗ semVal (V d c w, .dma B.sX) 0 ∗ Src R.a2 R.f2 q ∗ Src R.a3 R.f3 q ∗ Src R.a4 R.f4 q)

/-- The buffers of a set, whatever they hold. -/
def Free (B : Bufs) : sProp 𝕄 :=
  iprop((∃ v, Holds (F := F) d c w B.mi v) ∗ (∃ v, Holds (F := F) d c w B.mt v) ∗ ∃ v, Holds (F := F) d c w B.mx v)

/-- What a thread owes, when each wait it has recorded was recorded before or is one of its own copies'. -/
def Owing (d : Dev nD) (c : Fin τ.nSC) (w : Fin τ.nSub) (O : CellTallies nD τ sig (HIx 1)) (W : Waits sig (HIx 1)) : sProp 𝕄 :=
  iprop(∃ W', ⌜∀ p ∈ W', p ∈ W ∨ p.2 = none⌝ ∗ owes (V d c w) O W')

variable [FloatOps F]

theorem rowsOf_subset (a : Memref sig .scVector .hbm S1024x128x128 .f32) (p : ℕ) :
    ((rowsOf a (pOff p) (pInb p)).view.set : Finset (Idx (a.view.loc (V d c w)))) ⊆ a.view.set :=
  Finset.Subset.trans (Eq.le (View.set_reshape (a.slice (Rect.unit (s := S1024x128x128) (pOff p) S1x128x64.size (pInb p)) (fun _ => rfl)).view _))
    (View.set_slice_subset _ _)

theorem rowsX_subset (a : Memref sig .scVector .hbm S1024x64x128 .i32) (p : ℕ) :
    ((rowsX a (pOff p) (pInbX p)).view.set : Finset (Idx (a.view.loc (V d c w)))) ⊆ a.view.set :=
  Finset.Subset.trans (Eq.le (View.set_reshape (a.slice (Rect.unit (s := S1024x64x128) (pOff p) S1x64x128.size (pInbX p)) (fun _ => rfl)).view _))
    (View.set_slice_subset _ _)

/-- Starting one value copy: the buffer and the rows are lent, and come back as `Landed`. -/
theorem issue_rows {α : Type} {Q : α → sProp 𝕄} (a : Memref sig .scVector .hbm S1024x128x128 .f32) (f : Buf (Elt F) (a.view.loc (V d c w)))
    (q : PosShare TreeShare) (m : Memref sig .scVector .vmem S128x65 .f32) (p : ℕ) (sem : DmaSem sig) {N : ℕ} (hN : (leftOf m).view.dmaCredit = N)
    {Ds : Fin 2 → sProp 𝕄} {j : ℕ} (hj : j < 2) (hD : Landed a f q m p ⊢ Ds ⟨j, hj⟩)
    {s1 d1 m1} {k : Prog (TpuEff nD τ sig (Elt F) Λ₀ (.scVector c w)) α} :
    iprop((a.view.loc (V d c w) ↦[(rowsOf a (pOff p) (pInb p)).view.set]{q} f) ∗ (∃ v, Holds (F := F) d c w m v)
        ∗ Transfers.Batch EC (V d c w) (.dma sem) none N Ds j 0)
      ⊢ iprop((Transfers.Batch EC (V d c w) (.dma sem) none N Ds (j + 1) 0 -∗ wpV d c w k Q)
        -∗ wpV d c w (.op (.enqueueDma (rowsOf a (pOff p) (pInb p)) (.here (leftOf m)) (.dma sem) s1 d1 m1) fun _ => k) Q) := by
  unfold Holds
  iintro ⟨Hs, ⟨%v, %g, -, Hm⟩, HB⟩ HK
  iapply (Transfers.wp_dmaBatch EC 𝒱₀ (V d c w) none (src := rowsOf a (pOff p) (pInb p)) (dst := leftOf m) (sm := .dma sem) (Sd := m.view.set) (fd := g) (fs := f) (q := q)
    (D := Ds) (j := j) (u := 0) none N hN (View.set_slice_subset _ _) hj (Nat.zero_le _) ?_) $$ [Hs Hm HB]
  rotate_left
  · isplitl [Hs]; · iexact Hs
    isplitl [Hm]; · iexact Hm
    iexact HB
  · iexact HK
  · refine BIBase.Entails.trans ?_ hD
    unfold Landed Holds
    iintro ⟨Hm, Hs⟩
    isplitl [Hm]
    · iexists _
      isplitr
      · ipureintro; exact brought_write a f m g p
      · iexists _
        isplitr
        swap
        · iexact Hm
        · ipureintro; rfl
    · iexact Hs

/-- Starting the index copy. -/
theorem issue_rowsX {α : Type} {Q : α → sProp 𝕄} (a : Memref sig .scVector .hbm S1024x64x128 .i32) (f : Buf (Elt F) (a.view.loc (V d c w)))
    (q : PosShare TreeShare) (m : Memref sig .scVector .vmem S64x128 .i32) (p : ℕ) (sem : DmaSem sig)
    {s1 d1 m1} {k : Prog (TpuEff nD τ sig (Elt F) Λ₀ (.scVector c w)) α} :
    iprop((a.view.loc (V d c w) ↦[(rowsX a (pOff p) (pInbX p)).view.set]{q} f) ∗ (∃ v, Holds (F := F) d c w m v) ∗ semVal (V d c w, .dma sem) 0)
      ⊢ iprop((Transfers.Flight EC (V d c w) (.dma sem) none m.view.dmaCredit (LandedX a f q m p) -∗ wpV d c w k Q)
        -∗ wpV d c w (.op (.enqueueDma (rowsX a (pOff p) (pInbX p)) (.here m) (.dma sem) s1 d1 m1) fun _ => k) Q) := by
  unfold Holds
  iintro ⟨Hs, ⟨%v, %g, -, Hm⟩, HB⟩ HK
  iapply (Transfers.wp_dmaLocal EC 𝒱₀ (V d c w) none (src := rowsX a (pOff p) (pInbX p)) (dst := m) (sm := .dma sem) (Sd := m.view.set) (fd := g) (fs := f) (q := q)
    none m.view.dmaCredit rfl (View.dmaCredit_pos _ (by decide)) (Finset.Subset.refl _)) $$ [Hs Hm HB]
  · isplitl [Hs]; · iexact Hs
    isplitl [Hm]; · iexact Hm
    iexact HB
  iintro HB
  iapply HK
  iapply (Transfers.Flight_mono EC (V d c w) (show _ ⊢ _ from ?_)) $$ HB
  unfold LandedX Holds
  iintro ⟨Hm, Hs⟩
  isplitl [Hm]
  · iexists _
    isplitr
    swap
    · iexists _
      isplitr
      swap
      · iexact Hm
      · ipureintro; rfl
    · ipureintro
      intro i l
      rw [View.read_write_univ]
      exact read_rowsX a f p i l
  · iexact Hs

/-- Starting the three copies of pair `p` into a free set of buffers. -/
theorem issue {α : Type} {Q : α → sProp 𝕄} (B : Bufs) (R : Srcs F d c w) (q : PosShare TreeShare) (p : ℕ)
    {off : Fin 3 → ℕ} {inb : ∀ x, off x + S1x128x64.size x ≤ S1024x128x128.size x} (h : off = pOff p)
    {offX : Fin 3 → ℕ} {inbX : ∀ x, offX x + S1x64x128.size x ≤ S1024x64x128.size x} (hX : offX = pOff p)
    {s1 d1 m1 s2 d2 m2 s3 d3 m3} {k : Prog (TpuEff nD τ sig (Elt F) Λ₀ (.scVector c w)) α} :
    iprop(Quiet B R q ∗ Free (F := F) (d := d) (c := c) (w := w) B)
      ⊢ iprop((InFlight B R q p -∗ wpV d c w k Q)
        -∗ wpV d c w (.op (.enqueueDma (rowsOf R.a2 off inb) (.here (leftOf B.mi)) (.dma B.sV) s1 d1 m1) fun _ =>
            .op (.enqueueDma (rowsOf R.a3 off inb) (.here (leftOf B.mt)) (.dma B.sV) s2 d2 m2) fun _ =>
            .op (.enqueueDma (rowsX R.a4 offX inbX) (.here B.mx) (.dma B.sX) s3 d3 m3) fun _ => k) Q) := by
  subst h hX
  unfold Quiet Free InFlight
  iintro ⟨⟨HsV, HsX, H2, H3, H4⟩, Hi, Ht, Hx⟩ HK
  ihave H2 := (pointsTo_split_subset (rowsOf_subset R.a2 p)).1 $$ H2
  icases H2 with ⟨H2, H2r⟩
  ihave H3 := (pointsTo_split_subset (rowsOf_subset R.a3 p)).1 $$ H3
  icases H3 with ⟨H3, H3r⟩
  ihave H4 := (pointsTo_split_subset (rowsX_subset R.a4 p)).1 $$ H4
  icases H4 with ⟨H4, H4r⟩
  imod (Transfers.batch_alloc' EC (c := V d c w) (sm := .dma B.sV) none (leftOf B.mi).view.dmaCredit (delivers B R q p) (E := Set.univ)) $$ HsV with HB
  iapply (issue_rows R.a2 R.f2 q B.mi p B.sV rfl (Ds := delivers B R q p) (j := 0) (by decide) .rfl) $$ [H2 Hi HB]
  · isplitl [H2]; · iexact H2
    isplitl [Hi]; · iexact Hi
    iexact HB
  iintro HB
  iapply (issue_rows R.a3 R.f3 q B.mt p B.sV B.same (Ds := delivers B R q p) (j := 1) (by decide) .rfl) $$ [H3 Ht HB]
  · isplitl [H3]; · iexact H3
    isplitl [Ht]; · iexact Ht
    iexact HB
  iintro HB
  iapply (issue_rowsX R.a4 R.f4 q B.mx p B.sX) $$ [H4 Hx HsX]
  · isplitl [H4]; · iexact H4
    isplitl [Hx]; · iexact Hx
    iexact HsX
  iintro HX
  iapply HK
  isplitl [HB]; · iexact HB
  isplitl [HX]; · iexact HX
  isplitl [H2r]; · iexact H2r
  isplitl [H3r]; · iexact H3r
  iexact H4r

/-- Waiting for the copies of pair `p`: the buffers hold that pair and nothing is in flight. -/
theorem collect {α : Type} {Q : α → sProp 𝕄} (B : Bufs) (R : Srcs F d c w) (q : PosShare TreeShare) (p : ℕ)
    {O : CellTallies nD τ sig (HIx 1)} {W : Waits sig (HIx 1)}
    {u1 u2 : Memref sig .scVector .hbm S128x64 .f32} {u3 : Memref sig .scVector .hbm S64x128 .i32} {s1 d1 s2 d2 s3 d3}
    {k : Prog (TpuEff nD τ sig (Elt F) Λ₀ (.scVector c w)) α} :
    iprop(InFlight B R q p ∗ Owing d c w O W ∗ Transfers.MayWaits (V d c w) none O)
      ⊢ iprop((∀ v t x, iprop(⌜Brought R.A p v ∧ Brought R.T p t ∧ BroughtX R.X p x⌝ ∗ Holds d c w B.mi v ∗ Holds d c w B.mt t ∗ Holds d c w B.mx x
            ∗ Quiet B R q ∗ Owing d c w O W) -∗ wpV d c w k Q)
        -∗ wpV d c w (.op (.waitDma2 B.sV u1 (leftOf B.mi) s1 d1) fun _ =>
            .op (.waitDma2 B.sV u2 (leftOf B.mt) s2 d2) fun _ =>
            .op (.waitDma2 B.sX u3 B.mx s3 d3) fun _ => k) Q) := by
  have hN0 : 0 < (leftOf B.mi).view.dmaCredit := View.dmaCredit_pos _ (by decide)
  unfold InFlight Owing
  iintro ⟨⟨HB, HX, H2, H3, H4⟩, ⟨%W', %hW, HO⟩, #HMW⟩ HK
  iapply (Transfers.wp_waitBatchO EC 𝒱₀ (V d c w) none (dstw := leftOf B.mi) (D := delivers B R q p) (u := 0) none rfl (by omega) (O := O) (W := W')) $$ [HB HO]
  · isplitl [HB]; · iexact HB
    isplitl [HO]; · iexact HO
    iapply (Transfers.MayWaits.elim (.dma B.sV)); iexact HMW
  iintro ⟨HB, HO⟩
  iapply (Transfers.wp_waitBatchLastO EC 𝒱₀ (V d c w) none (dstw := leftOf B.mt) (D := delivers B R q p) (u := 0 + (leftOf B.mi).view.dmaCredit) none B.same hN0 (by omega) (O := O)) $$ [HB HO]
  · isplitl [HB]; · iexact HB
    isplitl [HO]; · iexact HO
    iapply (Transfers.MayWaits.elim (.dma B.sV)); iexact HMW
  rw [show bigSep Finset.univ (delivers B R q p) = iprop(Landed R.a2 R.f2 q B.mi p ∗ Landed R.a3 R.f3 q B.mt p) from BI.bigSep_fin_two _]
  iintro ⟨⟨HLi, HLt⟩, HsV, HO⟩
  iapply (Transfers.wp_waitLocalO EC 𝒱₀ (V d c w) none (dstw := B.mx) none rfl (O := O)) $$ [HX HO]
  · isplitl [HX]; · iexact HX
    isplitl [HO]; · iexact HO
    iapply (Transfers.MayWaits.elim (.dma B.sX)); iexact HMW
  iintro ⟨HLx, HsX, HO⟩
  unfold Landed LandedX
  icases HLi with ⟨⟨%v, %hv, Hi⟩, H2s⟩
  icases HLt with ⟨⟨%t, %ht, Ht⟩, H3s⟩
  icases HLx with ⟨⟨%x, %hx, Hx⟩, H4s⟩
  iapply HK $$ %v %t %x
  isplitr; · ipureintro; exact ⟨hv, ht, hx⟩
  isplitl [Hi]; · iexact Hi
  isplitl [Ht]; · iexact Ht
  isplitl [Hx]; · iexact Hx
  isplitr [HO]
  · unfold Quiet
    isplitl [HsV]; · iexact HsV
    isplitl [HsX]; · iexact HsX
    isplitl [H2 H2s]
    · iapply (pointsTo_split_subset (rowsOf_subset R.a2 p)).2
      isplitl [H2s]; · iexact H2s
      iexact H2
    isplitl [H3 H3s]
    · iapply (pointsTo_split_subset (rowsOf_subset R.a3 p)).2
      isplitl [H3s]; · iexact H3s
      iexact H3
    · iapply (pointsTo_split_subset (rowsX_subset R.a4 p)).2
      isplitl [H4s]; · iexact H4s
      iexact H4
  · iexists _
    isplitr
    swap
    · iexact HO
    · ipureintro
      intro y hy
      simp only [Finset.mem_insert] at hy
      rcases hy with rfl | rfl | rfl | hy
      · exact .inr rfl
      · exact .inr rfl
      · exact .inr rfl
      · exact hW y hy

end Sets

end Cert.Proof
-- ==== Proof.Outer.lean ====
/-
  The loop over pairs of a tile.

  Trip `k` works on the tile's pairs `2k` and `2k + 1`, one in each set of buffers. A trip starts with the copies of both
  in flight, and sends for the next two as soon as a set is free; the last trip sends for none.
-/
module

public import proofs.«01_k».proof.Proof.Inner
public import proofs.«01_k».proof.Proof.Copies

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The tile's first pair. -/
def baseOf (i : grid0.Coords) : ℕ := 64 * (i 1).val + 32 * (i 0).val

theorem baseOf_lt (i : grid0.Coords) : baseOf i + 32 ≤ 1024 := by
  have h1 : (i 1).val < 16 := (i 1).isLt
  have h0 : (i 0).val < 2 := (i 0).isLt
  unfold baseOf; omega

/-- The loop makes sixteen trips. -/
theorem trips1 : k0_t1_loop.trips = 16 := by decide

/-- The first set is refilled in every trip but the last, -/
theorem cond1_iff : ∀ k : Fin k0_t1_loop.trips, k0_cond1 k = 1#1 ↔ k.val + 1 < 16 := by decide
/-- and so is the second. -/
theorem cond2_iff : ∀ k : Fin k0_t1_loop.trips, k0_cond2 k = 1#1 ↔ k.val + 1 < 16 := by decide

theorem pOff_of {p q : ℕ} (h : p = q) (hq : q < 1024) : (![p, 0, 0] : Fin 3 → ℕ) = pOff q := by
  subst h; unfold pOff; rw [Nat.mod_eq_of_lt hq]

section Ahead
variable {d : Dev nD} {c : Fin τ.nSC} {w : Fin τ.nSub}

/-- The copies of pair `p` are in flight if `more`; otherwise the set is free. -/
def Ahead (B : Bufs) (R : Srcs F d c w) (q : PosShare TreeShare) (more : Prop) [Decidable more] (p : ℕ) : sProp 𝕄 :=
  if more then InFlight B R q p else iprop(Quiet B R q ∗ Free (F := F) (d := d) (c := c) (w := w) B)

theorem ahead_done (B : Bufs) (R : Srcs F d c w) (q : PosShare TreeShare) (p : ℕ) :
    Ahead B R q (16 < 16) p ⊢ iprop(Quiet B R q ∗ Free (F := F) (d := d) (c := c) (w := w) B) := by
  unfold Ahead; rw [if_neg (by decide)]

theorem broughtX_lt {X : S1024x64x128.Idx → BitVec 32} {p : ℕ} {x : S64x128.Idx → BitVec 32} (h : BroughtX X p x)
    (hX : ∀ y, (X y).toNat < 128) (y : S64x128.Idx) : (x y).toNat < 128 := by
  have h0 : (y 0).val < 64 := (y 0).isLt
  have h1 : (y 1).val < 128 := (y 1).isLt
  have e : y = atX (y 0).val (y 1).val := by
    funext a
    match a with
    | ⟨0, _⟩ => exact Fin.ext (Nat.mod_eq_of_lt h0).symm
    | ⟨1, _⟩ => exact Fin.ext (Nat.mod_eq_of_lt h1).symm
  rw [e, h]
  exact hX _

end Ahead

variable [FloatOps F] (d : Dev nD) (i : grid0.Coords)

section Trips

variable (a2 : Memref sig .scVector .hbm S1024x128x128 .f32) (h2 : a2.IsWhole) (a3 : Memref sig .scVector .hbm S1024x128x128 .f32) (h3 : a3.IsWhole)
  (a4 : Memref sig .scVector .hbm S1024x64x128 .i32) (h4 : a4.IsWhole) (a5 : Memref sig .scVector .hbm S32x16 .f32) (h5 : a5.IsWhole)
  (a6 : Memref sig .scVector .vmem S128x65 .f32) (h6 : a6.IsWhole) (a7 : Memref sig .scVector .vmem S128x65 .f32) (h7 : a7.IsWhole)
  (a8 : Memref sig .scVector .vmem S64x128 .i32) (h8 : a8.IsWhole) (a9 : Memref sig .scVector .vmem S128x65 .f32) (h9 : a9.IsWhole)
  (a10 : Memref sig .scVector .vmem S128x65 .f32) (h10 : a10.IsWhole) (a11 : Memref sig .scVector .vmem S64x128 .i32) (h11 : a11.IsWhole)
  (a12 : Memref sig .scVector .vmem S16 .f32) (h12 : a12.IsWhole) (a13 a14 a15 a16 a17 : DmaSems sig S_)
  (hs : (leftOf a7).view.dmaCredit = (leftOf a6).view.dmaCredit) (hs' : (leftOf a10).view.dmaCredit = (leftOf a9).view.dmaCredit)
  (f2 : Buf (Elt F) (a2.view.loc (V d (cV i) (sV i)))) (f3 : Buf (Elt F) (a3.view.loc (V d (cV i) (sV i))))
  (f4 : Buf (Elt F) (a4.view.loc (V d (cV i) (sV i)))) (q q' : PosShare TreeShare)
  (O : CellTallies nD τ sig (HIx 1)) (W : Waits sig (HIx 1))

/-- The first set of buffers. -/
abbrev setA : Bufs := ⟨a6, a7, a8, a13.sem, a15.sem, hs⟩
/-- The second set. -/
abbrev setB : Bufs := ⟨a9, a10, a11, a14.sem, a16.sem, hs'⟩
/-- The three arrays the tile reads. -/
abbrev srcs : Srcs F d (cV i) (sV i) := ⟨a2, a3, a4, f2, f3, f4⟩

/-- The first pair of a trip: its copies are waited for and its squares added. -/
theorem first_pair {β : Type} {Q : β → sProp 𝕄} (v2 c0 c1 : BitVec 32) (k : Fin k0_t1_loop.trips) (acc : FVec F S16 .f32) (p : ℕ)
    (hX : ∀ y, ((srcs d i a2 a3 a4 f2 f3 f4).X y).toNat < 128)
    (kk : (Σ' (_ : BitVec 32) (_ : BitVec 32) (_ : BitVec 32) (_ : FVec F S16 .f32), BitVec 32) → Prog (TpuEff nD τ sig (Elt F) Λ₀ (.scVector (cV i) (sV i))) β) :
    iprop(InFlight (setA a6 a7 a8 a13 a15 hs) (srcs d i a2 a3 a4 f2 f3 f4) q p ∗ Owing d (cV i) (sV i) O W ∗ Transfers.MayWaits (V d (cV i) (sV i)) none O)
      ⊢ iprop((∀ v40 v41 v43 v63, iprop((Quiet (setA a6 a7 a8 a13 a15 hs) (srcs d i a2 a3 a4 f2 f3 f4) q
              ∗ Free (F := F) (d := d) (c := cV i) (w := sV i) (setA a6 a7 a8 a13 a15 hs)) ∗ Owing d (cV i) (sV i) O W)
            -∗ wpV d (cV i) (sV i) (kk ⟨v40, v41, v43, chans (gatP (srcs d i a2 a3 a4 f2 f3 f4).A (srcs d i a2 a3 a4 f2 f3 f4).T (srcs d i a2 a3 a4 f2 f3 f4).X p) acc 64, v63⟩) Q)
        -∗ wpV d (cV i) (sV i) (k0_part5 i a2 h2 a3 h3 a4 h4 a5 h5 a6 h6 a7 h7 a8 h8 a9 h9 a10 h10 a11 h11 a12 h12 a13 a14 a15 a16 a17 v2 c0 c1 k acc >>= kk) Q) := by
  rw [k0_part5_eq_skeleton]
  unfold k0_part5_skel
  simp only [Prog.lift, Prog.bind_op, Prog.bind_ret, Prog.pure_eq_ret, bind_assoc]
  iintro HI HK
  iapply (collect (setA a6 a7 a8 a13 a15 hs) (srcs d i a2 a3 a4 f2 f3 f4) q p) $$ HI
  iintro %v %t %x ⟨%hv, Hv, Ht, Hx, HQ, HO⟩
  iapply (sub_loop d i a2 h2 a3 h3 a4 h4 a5 h5 a6 h6 a7 h7 a8 h8 a9 h9 a10 h10 a11 h11 a12 h12 a13 a14 a15 a16 a17 v2 c0 c1 k acc v t) $$ [Hv Ht]
  · isplitl [Hv]; · iexact Hv
    iexact Ht
  iintro ⟨Hv, Ht⟩
  iapply (chan_loop d i a2 h2 a3 h3 a4 h4 a5 h5 a6 h6 a7 h7 a8 h8 a9 h9 a10 h10 a11 h11 a12 h12 a13 a14 a15 a16 a17 v2 c0 c1 k acc (subN v t 512) x
    (broughtX_lt hv.2.2 hX) acc) $$ [Hv Hx]
  · isplitl [Hv]; · iexact Hv
    iexact Hx
  iintro ⟨Hv, Hx⟩
  rw [chans_brought hv.1 hv.2.1 hv.2.2]
  iapply HK $$ %_ %_ %_ %_
  isplitr [HO]
  · isplitl [HQ]; · iexact HQ
    unfold Free
    isplitl [Hv]; · iexists _; iexact Hv
    isplitl [Ht]; · iexists _; iexact Ht
    iexists _; iexact Hx
  · iexact HO

/-- The second pair of a trip: the first set is sent for again unless this trip is the last; the second set's copies are
    waited for and its squares added. -/
theorem second_pair {β : Type} {Q : β → sProp 𝕄} (v40 v41 v63 : BitVec 32) (k : Fin k0_t1_loop.trips) (acc : FVec F S16 .f32) (p : ℕ)
    (hX : ∀ y, ((srcs d i a2 a3 a4 f2 f3 f4).X y).toNat < 128)
    (kk : (Σ' (_ : FVec F S16 .f32) (_ : BitVec 32), BitVec 32) → Prog (TpuEff nD τ sig (Elt F) Λ₀ (.scVector (cV i) (sV i))) β) :
    iprop((Quiet (setA a6 a7 a8 a13 a15 hs) (srcs d i a2 a3 a4 f2 f3 f4) q ∗ Free (F := F) (d := d) (c := cV i) (w := sV i) (setA a6 a7 a8 a13 a15 hs))
        ∗ InFlight (setB a9 a10 a11 a14 a16 hs') (srcs d i a2 a3 a4 f2 f3 f4) q' p ∗ Owing d (cV i) (sV i) O W ∗ Transfers.MayWaits (V d (cV i) (sV i)) none O)
      ⊢ iprop((∀ v86 c32, iprop(Ahead (setA a6 a7 a8 a13 a15 hs) (srcs d i a2 a3 a4 f2 f3 f4) q (k.val + 1 < 16) (baseOf i + 2 * (k.val + 1))
              ∗ (Quiet (setB a9 a10 a11 a14 a16 hs') (srcs d i a2 a3 a4 f2 f3 f4) q'
              ∗ Free (F := F) (d := d) (c := cV i) (w := sV i) (setB a9 a10 a11 a14 a16 hs')) ∗ Owing d (cV i) (sV i) O W)
            -∗ wpV d (cV i) (sV i) (kk ⟨chans (gatP (srcs d i a2 a3 a4 f2 f3 f4).A (srcs d i a2 a3 a4 f2 f3 f4).T (srcs d i a2 a3 a4 f2 f3 f4).X p) acc 64, v86, c32⟩) Q)
        -∗ wpV d (cV i) (sV i) (k0_part6 i a2 h2 a3 h3 a4 h4 a5 h5 a6 h6 a7 h7 a8 h8 a9 h9 a10 h10 a11 h11 a12 h12 a13 a14 a15 a16 a17 k v40 v41 acc v63 >>= kk) Q) := by
  rw [k0_part6_eq_skeleton]
  unfold k0_part6_skel
  have key : iprop(Ahead (setA a6 a7 a8 a13 a15 hs) (srcs d i a2 a3 a4 f2 f3 f4) q (k.val + 1 < 16) (baseOf i + 2 * (k.val + 1))
        ∗ InFlight (setB a9 a10 a11 a14 a16 hs') (srcs d i a2 a3 a4 f2 f3 f4) q' p ∗ Owing d (cV i) (sV i) O W ∗ Transfers.MayWaits (V d (cV i) (sV i)) none O)
      ⊢ iprop((∀ v86 c32, iprop(Ahead (setA a6 a7 a8 a13 a15 hs) (srcs d i a2 a3 a4 f2 f3 f4) q (k.val + 1 < 16) (baseOf i + 2 * (k.val + 1))
              ∗ (Quiet (setB a9 a10 a11 a14 a16 hs') (srcs d i a2 a3 a4 f2 f3 f4) q'
              ∗ Free (F := F) (d := d) (c := cV i) (w := sV i) (setB a9 a10 a11 a14 a16 hs')) ∗ Owing d (cV i) (sV i) O W)
            -∗ wpV d (cV i) (sV i) (kk ⟨chans (gatP (srcs d i a2 a3 a4 f2 f3 f4).A (srcs d i a2 a3 a4 f2 f3 f4).T (srcs d i a2 a3 a4 f2 f3 f4).X p) acc 64, v86, c32⟩) Q)
        -∗ wpV d (cV i) (sV i) (.op (.waitDma2 a14.sem (rowsOf a2 (k0_off21 i k) (k0_off21_inb i k)) (leftOf a9) ((View.wordExact_bits rfl).reshape _ _) (View.wordExact_bits rfl)) fun _ =>
            .op (.waitDma2 a14.sem (rowsOf a3 (k0_off21 i k) (k0_off21_inb i k)) (leftOf a10) ((View.wordExact_bits rfl).reshape _ _) (View.wordExact_bits rfl)) fun _ =>
            .op (.waitDma2 a16.sem (rowsX a4 (k0_off22 i k) (k0_off22_inb i k)) a11 ((View.wordExact_bits rfl).reshape _ _) h11.wordExact) fun _ =>
            Scf.Loop.for k0_t4_loop k0_t4_ok ⟨⟩ (k0_t4_body i a2 h2 a3 h3 a4 h4 a5 h5 a6 h6 a7 h7 a8 h8 a9 h9 a10 h10 a11 h11 a12 h12 a13 a14 a15 a16 a17 k v40 v41 acc v63) >>= fun _ =>
            Scf.Loop.for k0_t5_loop k0_t5_ok acc (k0_t5_body i a2 h2 a3 h3 a4 h4 a5 h5 a6 h6 a7 h7 a8 h8 a9 h9 a10 h10 a11 h11 a12 h12 a13 a14 a15 a16 a17 k v40 v41 acc v63) >>= fun r =>
            kk ⟨r, Scalar.addi v40 3#32, 32#32⟩) Q) := by
    iintro ⟨HA, HI⟩ HK
    iapply (collect (setB a9 a10 a11 a14 a16 hs') (srcs d i a2 a3 a4 f2 f3 f4) q' p) $$ HI
    iintro %v %t %x ⟨%hv, Hv, Ht, Hx, HQ, HO⟩
    iapply (sub_loop' d i a2 h2 a3 h3 a4 h4 a5 h5 a6 h6 a7 h7 a8 h8 a9 h9 a10 h10 a11 h11 a12 h12 a13 a14 a15 a16 a17 v40 v41 v63 k acc v t) $$ [Hv Ht]
    · isplitl [Hv]; · iexact Hv
      iexact Ht
    iintro ⟨Hv, Ht⟩
    iapply (chan_loop' d i a2 h2 a3 h3 a4 h4 a5 h5 a6 h6 a7 h7 a8 h8 a9 h9 a10 h10 a11 h11 a12 h12 a13 a14 a15 a16 a17 v40 v41 v63 k acc (subN v t 512) x
      (broughtX_lt hv.2.2 hX) acc) $$ [Hv Hx]
    · isplitl [Hv]; · iexact Hv
      iexact Hx
    iintro ⟨Hv, Hx⟩
    rw [chans_brought hv.1 hv.2.1 hv.2.2]
    iapply HK $$ %_ %_
    isplitl [HA]; · iexact HA
    isplitr [HO]
    · isplitl [HQ]; · iexact HQ
      unfold Free
      isplitl [Hv]; · iexists _; iexact Hv
      isplitl [Ht]; · iexists _; iexact Ht
      iexists _; iexact Hx
    · iexact HO
  have hb := baseOf_lt i
  by_cases hk : k.val + 1 < 16
  · have hc := (cond1_iff k).2 hk
    simp only [dif_pos hc, Prog.lift, Prog.bind_op, Prog.bind_ret, Prog.pure_eq_ret, bind_assoc]
    iintro ⟨HA, HI⟩ HK
    iapply (issue (setA a6 a7 a8 a13 a15 hs) (srcs d i a2 a3 a4 f2 f3 f4) q (baseOf i + 2 * (k.val + 1))
      (off := k0_off19 i k) (offX := k0_off20 i k)
      ((k0_off19_eq i k).trans (pOff_of (by unfold baseOf; omega) (by omega))) ((k0_off20_eq i k).trans (pOff_of (by unfold baseOf; omega) (by omega)))) $$ HA
    iintro HA
    iapply key $$ [HA HI] HK
    isplitl [HA]
    · unfold Ahead; rw [if_pos hk]; iexact HA
    · iexact HI
  · have hc := fun h => hk ((cond1_iff k).1 h)
    simp only [dif_neg hc, Prog.lift, Prog.bind_op, Prog.bind_ret, Prog.pure_eq_ret, bind_assoc]
    iintro ⟨HA, HI⟩ HK
    iapply key $$ [HA HI] HK
    isplitl [HA]
    · unfold Ahead; rw [if_neg hk]; iexact HA
    · iexact HI

/-- What holds before trip `k`: the accumulator has the squares of the first `2k` pairs. -/
def Before (k : ℕ) (acc : FVec F S16 .f32) : sProp 𝕄 :=
  iprop(⌜acc = tileAcc (srcs d i a2 a3 a4 f2 f3 f4).A (srcs d i a2 a3 a4 f2 f3 f4).T (srcs d i a2 a3 a4 f2 f3 f4).X (baseOf i) (2 * k)⌝
    ∗ Ahead (setA a6 a7 a8 a13 a15 hs) (srcs d i a2 a3 a4 f2 f3 f4) q (k < 16) (baseOf i + 2 * k)
    ∗ Ahead (setB a9 a10 a11 a14 a16 hs') (srcs d i a2 a3 a4 f2 f3 f4) q' (k < 16) (baseOf i + 2 * k + 1)
    ∗ Owing d (cV i) (sV i) O W ∗ Transfers.MayWaits (V d (cV i) (sV i)) none O)

/-- One trip adds its two pairs. -/
theorem pair_trip (v2 : BitVec 32) (hX : ∀ y, ((srcs d i a2 a3 a4 f2 f3 f4).X y).toNat < 128) (k : Fin k0_t1_loop.trips) (acc : FVec F S16 .f32) :
    Before d i a2 a3 a4 a6 a7 a8 a9 a10 a11 a13 a14 a15 a16 hs hs' f2 f3 f4 q q' O W k.val acc
      ⊢ wpV d (cV i) (sV i) (k0_t1_body i a2 h2 a3 h3 a4 h4 a5 h5 a6 h6 a7 h7 a8 h8 a9 h9 a10 h10 a11 h11 a12 h12 a13 a14 a15 a16 a17 v2 k acc)
          (Before d i a2 a3 a4 a6 a7 a8 a9 a10 a11 a13 a14 a15 a16 hs hs' f2 f3 f4 q q' O W (k.val + 1)) := by
  have hk : k.val < 16 := lt_of_lt_of_eq k.isLt trips1
  have hb := baseOf_lt i
  unfold Before
  rw [show Ahead (setA a6 a7 a8 a13 a15 hs) (srcs d i a2 a3 a4 f2 f3 f4) q (k.val < 16) (baseOf i + 2 * k.val) = _ from if_pos hk,
    show Ahead (setB a9 a10 a11 a14 a16 hs') (srcs d i a2 a3 a4 f2 f3 f4) q' (k.val < 16) (baseOf i + 2 * k.val + 1) = _ from if_pos hk]
  unfold k0_t1_body
  iintro ⟨%hacc, HA, HB, HO, #HMW⟩
  iapply (first_pair d i a2 h2 a3 h3 a4 h4 a5 h5 a6 h6 a7 h7 a8 h8 a9 h9 a10 h10 a11 h11 a12 h12 a13 a14 a15 a16 a17 hs f2 f3 f4 q O W v2 0#32 1#32 k acc
    (baseOf i + 2 * k.val) hX) $$ [HA HO]
  · isplitl [HA]; · iexact HA
    isplitl [HO]; · iexact HO
    iexact HMW
  iintro %v40 %v41 %v43 %v63 ⟨HA, HO⟩
  iapply (second_pair d i a2 h2 a3 h3 a4 h4 a5 h5 a6 h6 a7 h7 a8 h8 a9 h9 a10 h10 a11 h11 a12 h12 a13 a14 a15 a16 a17 hs hs' f2 f3 f4 q q' O W v40 v41 v63 k
    (chans (gatP (srcs d i a2 a3 a4 f2 f3 f4).A (srcs d i a2 a3 a4 f2 f3 f4).T (srcs d i a2 a3 a4 f2 f3 f4).X (baseOf i + 2 * k.val)) acc 64)
    (baseOf i + 2 * k.val + 1) hX) $$ [HA HB HO]
  · isplitl [HA]; · iexact HA
    isplitl [HB]; · iexact HB
    isplitl [HO]; · iexact HO
    iexact HMW
  iintro %v86 %c32 ⟨HA, HB, HO⟩
  have hacc' : chans (gatP (srcs d i a2 a3 a4 f2 f3 f4).A (srcs d i a2 a3 a4 f2 f3 f4).T (srcs d i a2 a3 a4 f2 f3 f4).X (baseOf i + 2 * k.val + 1))
      (chans (gatP (srcs d i a2 a3 a4 f2 f3 f4).A (srcs d i a2 a3 a4 f2 f3 f4).T (srcs d i a2 a3 a4 f2 f3 f4).X (baseOf i + 2 * k.val)) acc 64) 64
      = tileAcc (srcs d i a2 a3 a4 f2 f3 f4).A (srcs d i a2 a3 a4 f2 f3 f4).T (srcs d i a2 a3 a4 f2 f3 f4).X (baseOf i) (2 * (k.val + 1)) := by
    rw [hacc]; rfl
  by_cases hk' : k.val + 1 < 16
  · have hc := (cond2_iff k).2 hk'
    simp only [dif_pos hc, Prog.lift, Prog.bind_op, Prog.bind_ret, Prog.pure_eq_ret, bind_assoc]
    iapply (issue (setB a9 a10 a11 a14 a16 hs') (srcs d i a2 a3 a4 f2 f3 f4) q' (baseOf i + 2 * (k.val + 1) + 1)
      (off := k0_off35 i k) (offX := k0_off36 i k)
      ((k0_off35_eq i k).trans (pOff_of (by unfold baseOf; omega) (by omega))) ((k0_off36_eq i k).trans (pOff_of (by unfold baseOf; omega) (by omega)))) $$ HB
    iintro HB
    rw [wpV, wp_ret]; imodintro
    isplitr; · ipureintro; exact hacc'
    isplitl [HA]; · iexact HA
    isplitl [HB]
    · unfold Ahead; rw [if_pos hk']; iexact HB
    isplitl [HO]; · iexact HO
    iexact HMW
  · have hc := fun h => hk' ((cond2_iff k).1 h)
    simp only [dif_neg hc, Prog.lift, Prog.bind_op, Prog.bind_ret, Prog.pure_eq_ret, bind_assoc]
    rw [wpV, wp_ret]; imodintro
    isplitr; · ipureintro; exact hacc'
    isplitl [HA]; · iexact HA
    isplitl [HB]
    · unfold Ahead; rw [if_neg hk']; iexact HB
    isplitl [HO]; · iexact HO
    iexact HMW

/-- The whole loop at the head of a program: all thirty-two pairs are added and nothing is in flight. -/
theorem pair_loop {β : Type} {Q : β → sProp 𝕄} (v2 : BitVec 32) (hX : ∀ y, ((srcs d i a2 a3 a4 f2 f3 f4).X y).toNat < 128)
    (kk : FVec F S16 .f32 → Prog (TpuEff nD τ sig (Elt F) Λ₀ (.scVector (cV i) (sV i))) β) :
    iprop(InFlight (setA a6 a7 a8 a13 a15 hs) (srcs d i a2 a3 a4 f2 f3 f4) q (baseOf i)
        ∗ InFlight (setB a9 a10 a11 a14 a16 hs') (srcs d i a2 a3 a4 f2 f3 f4) q' (baseOf i + 1)
        ∗ Owing d (cV i) (sV i) O W ∗ Transfers.MayWaits (V d (cV i) (sV i)) none O)
      ⊢ iprop((iprop((Quiet (setA a6 a7 a8 a13 a15 hs) (srcs d i a2 a3 a4 f2 f3 f4) q ∗ Free (F := F) (d := d) (c := cV i) (w := sV i) (setA a6 a7 a8 a13 a15 hs))
              ∗ (Quiet (setB a9 a10 a11 a14 a16 hs') (srcs d i a2 a3 a4 f2 f3 f4) q' ∗ Free (F := F) (d := d) (c := cV i) (w := sV i) (setB a9 a10 a11 a14 a16 hs'))
              ∗ Owing d (cV i) (sV i) O W)
            -∗ wpV d (cV i) (sV i) (kk (tileAcc (srcs d i a2 a3 a4 f2 f3 f4).A (srcs d i a2 a3 a4 f2 f3 f4).T (srcs d i a2 a3 a4 f2 f3 f4).X (baseOf i) 32)) Q)
        -∗ wpV d (cV i) (sV i) (Scf.Loop.for k0_t1_loop k0_t1_ok (k0_pay1 (F := F))
            (k0_t1_body i a2 h2 a3 h3 a4 h4 a5 h5 a6 h6 a7 h7 a8 h8 a9 h9 a10 h10 a11 h11 a12 h12 a13 a14 a15 a16 a17 v2) >>= kk) Q) := by
  iintro ⟨HA, HB, HO, HMW⟩ HK
  iapply (Scf.wp_for_bind frame (wpE (defs₀ (F := F)) 𝒱₀ (V d (cV i) (sV i)) none) Set.univ _ _ _ k0_t1_ok _ _
    (Before d i a2 a3 a4 a6 a7 a8 a9 a10 a11 a13 a14 a15 a16 hs hs' f2 f3 f4 q q' O W)
    (fun k acc => pair_trip d i a2 h2 a3 h3 a4 h4 a5 h5 a6 h6 a7 h7 a8 h8 a9 h9 a10 h10 a11 h11 a12 h12 a13 a14 a15 a16 a17 hs hs' f2 f3 f4 q q' O W v2 hX k acc)) $$ [HA HB HO HMW]
  · unfold Before Ahead
    isplitr; · ipureintro; rfl
    isplitl [HA]; · rw [if_pos (by decide)]; iexact HA
    isplitl [HB]; · rw [if_pos (by decide)]; iexact HB
    isplitl [HO]; · iexact HO
    iexact HMW
  iintro %acc HI
  rw [show Scf.trips k0_t1_loop.lb k0_t1_loop.ub k0_t1_loop.st = 16 from trips1]
  unfold Before
  icases HI with ⟨%hacc, HA, HB, HO, -⟩
  rw [hacc]
  iapply HK
  isplitl [HA]; · iapply (ahead_done _ _ _ _) $$ HA
  isplitl [HB]; · iapply (ahead_done _ _ _ _) $$ HB
  iexact HO

end Trips

end Cert.Proof
-- ==== Proof.Tile.lean ====
/-
  A tile's whole program, over any buffers: it starts the copies of its first two pairs, runs the loop over pairs, and
  writes its sixteen sums to its row of the output.
-/
module

public import proofs.«01_k».proof.Proof.Outer

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The tile's row of the output, as the program slices it. -/
abbrev rowOut (a : Memref sig .scVector .hbm S32x16 .f32) (i : grid0.Coords) : Memref sig .scVector .hbm S16 .f32 :=
  (a.slice (Rect.unit (s := S32x16) (k0_off37 i) S1x16.size (k0_off37_inb i)) (fun _ => rfl)).squeeze S16 squeezes_S1x16_S16

/-- Sixteen lanes stored over all sixteen leave just those. -/
theorem put_all (v x : S16.Idx → F .f32) : VecWindow.put v ![0] S16.size x = x := by
  funext y
  have h : ∀ a, (![0] : Fin 1 → ℕ) a ≤ (y a).val ∧ (y a).val < (![0] : Fin 1 → ℕ) a + S16.size a := by
    intro a
    match a with
    | ⟨0, _⟩ => exact ⟨Nat.zero_le _, by show (y 0).val < 0 + 16; have : (y 0).val < 16 := (y 0).isLt; omega⟩
  refine (dif_pos h).trans ?_
  refine congrArg x (funext fun a => Fin.ext ?_)
  match a with
  | ⟨0, _⟩ => exact Nat.sub_zero _

variable [FloatOps F] (d : Dev nD) (i : grid0.Coords)

variable (a2 : Memref sig .scVector .hbm S1024x128x128 .f32) (h2 : a2.IsWhole) (a3 : Memref sig .scVector .hbm S1024x128x128 .f32) (h3 : a3.IsWhole)
  (a4 : Memref sig .scVector .hbm S1024x64x128 .i32) (h4 : a4.IsWhole) (a5 : Memref sig .scVector .hbm S32x16 .f32) (h5 : a5.IsWhole)
  (a6 : Memref sig .scVector .vmem S128x65 .f32) (h6 : a6.IsWhole) (a7 : Memref sig .scVector .vmem S128x65 .f32) (h7 : a7.IsWhole)
  (a8 : Memref sig .scVector .vmem S64x128 .i32) (h8 : a8.IsWhole) (a9 : Memref sig .scVector .vmem S128x65 .f32) (h9 : a9.IsWhole)
  (a10 : Memref sig .scVector .vmem S128x65 .f32) (h10 : a10.IsWhole) (a11 : Memref sig .scVector .vmem S64x128 .i32) (h11 : a11.IsWhole)
  (a12 : Memref sig .scVector .vmem S16 .f32) (h12 : a12.IsWhole) (a13 a14 a15 a16 a17 : DmaSems sig S_)
  (hs : (leftOf a7).view.dmaCredit = (leftOf a6).view.dmaCredit) (hs' : (leftOf a10).view.dmaCredit = (leftOf a9).view.dmaCredit)
  (f2 : Buf (Elt F) (a2.view.loc (V d (cV i) (sV i)))) (f3 : Buf (Elt F) (a3.view.loc (V d (cV i) (sV i))))
  (f4 : Buf (Elt F) (a4.view.loc (V d (cV i) (sV i)))) (f5 : Buf (Elt F) (a5.view.loc (V d (cV i) (sV i)))) (q q' : PosShare TreeShare)
  (O : CellTallies nD τ sig (HIx 1)) (W : Waits sig (HIx 1))

/-- The tile's program, from free buffers, quiet semaphores and its row of the output: the row ends at the tile's sums
    and everything else is handed back. -/
theorem tile_run (hX : ∀ y, ((srcs d i a2 a3 a4 f2 f3 f4).X y).toNat < 128) :
    iprop(Transfers.MayWaits (V d (cV i) (sV i)) none O
        ∗ (Quiet (setA a6 a7 a8 a13 a15 hs) (srcs d i a2 a3 a4 f2 f3 f4) q ∗ Free (F := F) (d := d) (c := cV i) (w := sV i) (setA a6 a7 a8 a13 a15 hs))
        ∗ (Quiet (setB a9 a10 a11 a14 a16 hs') (srcs d i a2 a3 a4 f2 f3 f4) q' ∗ Free (F := F) (d := d) (c := cV i) (w := sV i) (setB a9 a10 a11 a14 a16 hs'))
        ∗ (∃ v, Holds (F := F) d (cV i) (sV i) a12 v) ∗ semVal (V d (cV i) (sV i), .dma a17.sem) 0
        ∗ (a5.view.loc (V d (cV i) (sV i)) ↦[(rowOut a5 i).view.set]{fullShare} f5)
        ∗ owes (V d (cV i) (sV i)) O W)
      ⊢ wpV d (cV i) (sV i) (cc0_sc_kernel i a2 h2 a3 h3 a4 h4 a5 h5 a6 h6 a7 h7 a8 h8 a9 h9 a10 h10 a11 h11 a12 h12 a13 a14 a15 a16 a17)
          fun _ => iprop((Quiet (setA a6 a7 a8 a13 a15 hs) (srcs d i a2 a3 a4 f2 f3 f4) q ∗ Free (F := F) (d := d) (c := cV i) (w := sV i) (setA a6 a7 a8 a13 a15 hs))
            ∗ (Quiet (setB a9 a10 a11 a14 a16 hs') (srcs d i a2 a3 a4 f2 f3 f4) q' ∗ Free (F := F) (d := d) (c := cV i) (w := sV i) (setB a9 a10 a11 a14 a16 hs'))
            ∗ (∃ v, Holds (F := F) d (cV i) (sV i) a12 v) ∗ semVal (V d (cV i) (sV i), .dma a17.sem) 0
            ∗ (a5.view.loc (V d (cV i) (sV i)) ↦[(rowOut a5 i).view.set]{fullShare} (rowOut a5 i).view.write (Elt F) f5
                (tileAcc (srcs d i a2 a3 a4 f2 f3 f4).A (srcs d i a2 a3 a4 f2 f3 f4).T (srcs d i a2 a3 a4 f2 f3 f4).X (baseOf i) 32) Finset.univ)
            ∗ Owing d (cV i) (sV i) O W) := by
  have hb := baseOf_lt i
  rw [cc0_sc_kernel_eq_skeleton]
  unfold cc0_sc_kernel_skel
  rw [k0_part7_eq_skeleton]
  unfold k0_part7_skel
  simp only [Prog.lift, Prog.bind_op, Prog.bind_ret, Prog.pure_eq_ret, bind_assoc]
  iintro ⟨#HMW, HA, HB, ⟨%v, Hacc⟩, Hsem, Hout, HO⟩
  iapply (issue (setA a6 a7 a8 a13 a15 hs) (srcs d i a2 a3 a4 f2 f3 f4) q (baseOf i) (off := k0_off1 i) (offX := k0_off2 i)
    ((k0_off1_eq i).trans (pOff_of rfl (by omega))) ((k0_off2_eq i).trans (pOff_of rfl (by omega)))) $$ HA
  iintro HA
  iapply (issue (setB a9 a10 a11 a14 a16 hs') (srcs d i a2 a3 a4 f2 f3 f4) q' (baseOf i + 1) (off := k0_off3 i) (offX := k0_off4 i)
    ((k0_off3_eq i).trans (pOff_of rfl (by omega))) ((k0_off4_eq i).trans (pOff_of rfl (by omega)))) $$ HB
  iintro HB
  iapply (pair_loop d i a2 h2 a3 h3 a4 h4 a5 h5 a6 h6 a7 h7 a8 h8 a9 h9 a10 h10 a11 h11 a12 h12 a13 a14 a15 a16 a17 hs hs' f2 f3 f4 q q' O W _ hX) $$ [HA HB HO]
  · isplitl [HA]; · iexact HA
    isplitl [HB]; · iexact HB
    isplitl [HO]
    · unfold Owing
      iexists W; isplitr
      · ipureintro; exact fun p hp => .inl hp
      · iexact HO
    iexact HMW
  iintro ⟨HA, HB, HO⟩
  iapply (wp_load_holds d (cV i) (sV i) rfl inb_S16_S16_0) $$ Hacc
  iintro Hacc
  iapply (wp_store_holds d (cV i) (sV i) rfl) $$ Hacc
  rw [put_all]
  unfold Holds Owing
  iintro ⟨%f, %hf, Hacc⟩
  icases HO with ⟨%W', %hW, HO⟩
  iapply (Transfers.wp_dmaLocal EC 𝒱₀ (V d (cV i) (sV i)) none (src := a12) (dst := rowOut a5 i) (sm := .dma a17.sem) (Sd := (rowOut a5 i).view.set) (fd := f5) (fs := f)
    (q := fullShare) none (rowOut a5 i).view.dmaCredit rfl (View.dmaCredit_pos _ (by decide)) (Finset.Subset.refl _)) $$ [Hacc Hout Hsem]
  · isplitl [Hacc]; · iexact Hacc
    isplitl [Hout]; · iexact Hout
    iexact Hsem
  iintro HF
  iapply (Transfers.wp_waitLocalO EC 𝒱₀ (V d (cV i) (sV i)) none (dstw := rowOut a5 i) none rfl (O := O)) $$ [HF HO]
  · isplitl [HF]; · iexact HF
    isplitl [HO]; · iexact HO
    iapply (Transfers.MayWaits.elim (.dma a17.sem)); iexact HMW
  rw [ReadAs.apply_same, hf]
  iintro ⟨⟨Hout, Hacc⟩, Hsem, HO⟩
  rw [wp_ret]; imodintro
  isplitl [HA]; · iexact HA
  isplitl [HB]; · iexact HB
  isplitl [Hacc]
  · iexists _; iexists f
    isplitr
    swap
    · iexact Hacc
    · ipureintro; rfl
  isplitl [Hsem]; · iexact Hsem
  isplitl [Hout]; · iexact Hout
  iexists _
  isplitr
  swap
  · iexact HO
  · ipureintro
    intro y hy
    rcases Finset.mem_insert.mp hy with rfl | hy
    · exact .inr rfl
    · exact hW y hy

end Cert.Proof
-- ==== Proof.Deal.lean ====
/-
  How the four arrays are dealt among the thirty-two tiles. Every tile reads all of the three input arrays, so each is
  held in thirty-two shares, each share cut in two for the tile's two buffer sets; the output is cut by rows.
-/
module

public import proofs.«01_k».proof.Proof.Tile

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.ShloMosaic.Transfers (dealOf pointsTo_deal)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The input images, the target images, the indices and the output, as locations of a device. -/
abbrev aLoc (d : Dev nD) : Loc nD τ sig := (SparseCore.T d).loc main_v0
abbrev tLoc (d : Dev nD) : Loc nD τ sig := (SparseCore.T d).loc main_v1
abbrev xLoc (d : Dev nD) : Loc nD τ sig := (SparseCore.T d).loc main_v2
abbrev oLoc (d : Dev nD) : Loc nD τ sig := (SparseCore.T d).loc main_v3

/-- The same as a tile's program names them. -/
abbrev aV : Memref sig .scVector .hbm S1024x128x128 .f32 := Memref.whole main_v0_scv
abbrev tV : Memref sig .scVector .hbm S1024x128x128 .f32 := Memref.whole main_v1_scv
abbrev xV : Memref sig .scVector .hbm S1024x64x128 .i32 := Memref.whole main_v2_scv
abbrev oV : Memref sig .scVector .hbm S32x16 .f32 := Memref.whole main_v3_scv

/-- A tile's coordinates from its core and its place in the core. -/
def tileAt (c : Fin 2) (s : Fin 16) : grid0.Coords :=
  fun | 0 => c | 1 => s | ⟨_ + 2, h⟩ => absurd h (Nat.not_lt.2 (Nat.le_add_left _ _))

/-- The share of an input array a tile is lent. -/
def lent (i : grid0.Coords) : PosShare TreeShare :=
  dealOf (dealOf fullShare (Finset.univ : Finset (Fin 2)) (i 0)) (Finset.univ : Finset (Fin 16)) (i 1)

/-- An array is dealt into two parts for every tile. -/
theorem dealt (ℓ : Loc nD τ sig) (f : Buf (Elt F) ℓ) :
    (ℓ ↦{fullShare} f : sProp 𝕄) = bigSep (Finset.univ : Finset (Fin 2)) fun c => bigSep (Finset.univ : Finset (Fin 16)) fun s =>
      iprop((ℓ ↦{(lent (tileAt c s)).left} f) ∗ ℓ ↦{(lent (tileAt c s)).right} f) := by
  rw [pointsTo_deal (Finset.univ : Finset (Fin 2)) Finset.univ_nonempty fullShare]
  refine bigSep_congr fun c _ => ?_
  rw [pointsTo_deal (Finset.univ : Finset (Fin 16)) Finset.univ_nonempty]
  refine bigSep_congr fun s _ => ?_
  exact BI.Entails.antisymm (pointsTo_share (PosShare.mem_left_op_right (lent (tileAt c s)))).1
    (pointsTo_share (PosShare.mem_left_op_right (lent (tileAt c s)))).2

theorem rows_div : 32 ∣ S32x16.size 0 := ⟨1, rfl⟩

/-- Row `r` of the output. -/
abbrev rowRect (r : Fin 32) : Rect S32x16 := Rect.part (s := S32x16) (a₀ := 0) rows_div r

/-- A tile's row. -/
def rowIx (i : grid0.Coords) : Fin 32 :=
  ⟨2 * (i 1).val + (i 0).val, by
    have h1 : (i 1).val < 16 := (i 1).isLt
    have h0 : (i 0).val < 2 := (i 0).isLt
    omega⟩

/-- The rectangle the tile's program slices is its row. -/
theorem rowRect_eq (i : grid0.Coords) :
    Rect.unit (s := S32x16) (k0_off37 i) S1x16.size (k0_off37_inb i) = rowRect (rowIx i) := by
  unfold rowRect Rect.part Rect.block
  congr 1 <;> funext a
  · rw [k0_off37_eq]
    match a with
    | 0 => simp [Shape.partIx, Shape.partSize, rowIx]
    | 1 => simp [Shape.partIx, Shape.partSize]
  · match a with
    | 0 => simp [Shape.partSize]
    | 1 => simp [Shape.partSize]

theorem set_rowOut (i : grid0.Coords) : (rowOut oV i).view.set = (rowRect (rowIx i)).set := by
  refine Eq.trans (View.set_reshape (oV.slice (Rect.unit (s := S32x16) (k0_off37 i) S1x16.size (k0_off37_inb i)) (fun _ => rfl)).view _) ?_
  refine Eq.trans (View.set_slice _ _) (Eq.trans Finset.map_refl ?_)
  exact congrArg (fun r : Rect S32x16 => r.set) (rowRect_eq i)

/-- The output is cut into the tiles' rows. -/
theorem cut (d : Dev nD) (f : Buf (Elt F) (oLoc d)) :
    (oLoc d ↦{fullShare} f : sProp 𝕄) = bigSep (Finset.univ : Finset (Fin 2)) fun c => bigSep (Finset.univ : Finset (Fin 16)) fun s =>
      oLoc d ↦[(rowRect (rowIx (tileAt c s))).set]{fullShare} f := by
  have hd : ∀ t ∈ (Finset.univ : Finset (Fin 2 × Fin 16)), ∀ t' ∈ (Finset.univ : Finset (Fin 2 × Fin 16)), t ≠ t' →
      Disjoint (rowRect (rowIx (tileAt t.1 t.2))).set (rowRect (rowIx (tileAt t'.1 t'.2))).set := by
    intro t _ t' _ h
    refine Rect.part_disjoint rows_div fun e => h ?_
    have e' : 2 * t.2.val + t.1.val = 2 * t'.2.val + t'.1.val := congrArg Fin.val e
    have h1 := t.1.isLt
    have h2 := t'.1.isLt
    exact Prod.ext (Fin.ext (by omega)) (Fin.ext (by omega))
  have hc : (Finset.univ : Finset (Fin 2 × Fin 16)).biUnion (fun t => (rowRect (rowIx (tileAt t.1 t.2))).set) = Finset.univ := by
    refine Finset.eq_univ_of_forall fun x => ?_
    have hx : x ∈ (Finset.univ : Finset (Fin 32)).biUnion fun r => (rowRect r).set := by
      rw [Rect.biUnion_part rows_div]; exact Finset.mem_univ x
    obtain ⟨r, -, hr⟩ := Finset.mem_biUnion.mp hx
    have hlt := r.isLt
    refine Finset.mem_biUnion.mpr ⟨(⟨r.val % 2, by omega⟩, ⟨r.val / 2, by omega⟩), Finset.mem_univ _, ?_⟩
    have e : rowIx (tileAt ⟨r.val % 2, by omega⟩ ⟨r.val / 2, by omega⟩) = r :=
      Fin.ext (by show 2 * (r.val / 2) + r.val % 2 = r.val; omega)
    show x ∈ (rowRect (rowIx (tileAt ⟨r.val % 2, by omega⟩ ⟨r.val / 2, by omega⟩))).set
    rw [e]; exact hr
  refine Eq.trans ?_ (SparseCore.bigSep_product (Finset.univ : Finset (Fin 2)) (Finset.univ : Finset (Fin 16))
    fun t => (oLoc d ↦[(rowRect (rowIx (tileAt t.1 t.2))).set]{fullShare} f : sProp 𝕄))
  rw [Finset.univ_product_univ]
  refine Eq.trans ?_ (pointsTo_biUnion Finset.univ (ℓ := oLoc d) (fun t : Fin 2 × Fin 16 => (rowRect (rowIx (tileAt t.1 t.2))).set) hd)
  exact congrArg (fun I => (oLoc d ↦[I]{fullShare} f : sProp 𝕄)) hc.symm

/-- What one tile holds of the four arrays. -/
def tileHas (d : Dev nD) (i : grid0.Coords) (f2 : Buf (Elt F) (aLoc d)) (f3 : Buf (Elt F) (tLoc d)) (f4 : Buf (Elt F) (xLoc d))
    (f5 : Buf (Elt F) (oLoc d)) : sProp 𝕄 :=
  iprop(((aLoc d ↦{(lent i).left} f2) ∗ aLoc d ↦{(lent i).right} f2) ∗ ((tLoc d ↦{(lent i).left} f3) ∗ tLoc d ↦{(lent i).right} f3)
    ∗ ((xLoc d ↦{(lent i).left} f4) ∗ xLoc d ↦{(lent i).right} f4) ∗ oLoc d ↦[(rowRect (rowIx i)).set]{fullShare} f5)

instance (d : Dev nD) (i : grid0.Coords) (f2 : Buf (Elt F) (aLoc d)) (f3 : Buf (Elt F) (tLoc d)) (f4 : Buf (Elt F) (xLoc d))
    (f5 : Buf (Elt F) (oLoc d)) : Storable (upEmb : UEmb _ 𝕄) (tileHas d i f2 f3 f4 f5) := by
  unfold tileHas; infer_instance

/-- The four arrays whole are what the thirty-two tiles hold. -/
theorem all_tiles (d : Dev nD) (f2 : Buf (Elt F) (aLoc d)) (f3 : Buf (Elt F) (tLoc d)) (f4 : Buf (Elt F) (xLoc d)) (f5 : Buf (Elt F) (oLoc d)) :
    (bigSep (Finset.univ : Finset (Fin 2)) fun c => bigSep (Finset.univ : Finset (Fin 16)) fun s => tileHas d (tileAt c s) f2 f3 f4 f5)
      = (iprop((aLoc d ↦{fullShare} f2) ∗ (tLoc d ↦{fullShare} f3) ∗ (xLoc d ↦{fullShare} f4) ∗ oLoc d ↦{fullShare} f5) : sProp 𝕄) := by
  unfold tileHas
  rw [dealt (aLoc d), dealt (tLoc d), dealt (xLoc d), cut d, ← bigSep_sep', ← bigSep_sep', ← bigSep_sep']
  refine bigSep_congr fun c _ => ?_
  rw [← bigSep_sep', ← bigSep_sep', ← bigSep_sep']

/-- What the tiles leave in the output: row `r` holds the sums of the tile whose pairs start at `32 r`. -/
def outVal [FloatOps F] (A T : S1024x128x128.Idx → F .f32) (X : S1024x64x128.Idx → BitVec 32) : S32x16.Idx → F .f32 :=
  fun y => tileAcc A T X (32 * (y 0).val) 32 (ix1 (⟨(y 1).val, (y 1).isLt⟩ : Fin 16))

/-- On its row, what a tile wrote is what `outVal` says. -/
theorem row_written [FloatOps F] (d : Dev nD) (i : grid0.Coords) (A T : S1024x128x128.Idx → F .f32) (X : S1024x64x128.Idx → BitVec 32)
    (f5 : Buf (Elt F) (oLoc d)) :
    ∀ y ∈ (rowOut oV i).view.set, (rowOut oV i).view.write (Elt F) f5 (tileAcc A T X (baseOf i) 32) Finset.univ y = outVal A T X y := by
  intro y hy
  obtain ⟨z, -, rfl⟩ := Finset.mem_map.mp hy
  refine (View.write_emb_of_mem _ _ (Finset.mem_univ z)).trans ?_
  refine (cast_eq _ _).trans ?_
  have ez : Shape.reshapeEquiv squeezes_S1x16_S16.numel_eq z = ix2 (⟨0, Nat.one_pos⟩ : Fin 1) (⟨(z 0).val, (z 0).isLt⟩ : Fin 16) :=
    Shape.reshapeEquiv_eq_of_rowMajor _ (by
      rw [Shape.rowMajor_val_two, Shape.rowMajor_val_one]
      show 0 * 16 + (z 0).val = (z 0).val
      rw [Nat.zero_mul, Nat.zero_add])
  have ey : (rowOut oV i).view.emb z
      = (Rect.unit (s := S32x16) (k0_off37 i) S1x16.size (k0_off37_inb i)).emb (Shape.reshapeEquiv squeezes_S1x16_S16.numel_eq z) := rfl
  have e0 : ((rowOut oV i).view.emb z 0).val = 2 * (i 1).val + (i 0).val := by
    rw [ey, ez]
    show k0_off37 i 0 + 1 * 0 = _
    rw [k0_off37_eq]; rfl
  have e1 : ((rowOut oV i).view.emb z 1).val = (z 0).val := by
    rw [ey, ez]
    show k0_off37 i 1 + 1 * (z 0).val = _
    rw [k0_off37_eq]; show 0 + 1 * (z 0).val = _; omega
  unfold outVal
  have eb : baseOf i = 32 * ((rowOut oV i).view.emb z 0).val := by rw [e0]; unfold baseOf; omega
  rw [eb]
  refine congrArg (tileAcc A T X _ 32) ?_
  funext a
  match a with
  | ⟨0, _⟩ => exact Fin.ext e1.symm

end Cert.Proof
-- ==== Proof.Task.lean ====
/-
  The task of one tile over the program's own buffers and semaphores: from its part of the four arrays and its scratch to
  the same with its row of the output written.
-/
module

public import proofs.«01_k».proof.Proof.Deal

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx Pay ownSems0 ownBufs mem_ownCells ownCells ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F] (d : Dev nD) (i : grid0.Coords)

variable (c : Fin τ.nSC) (w : Fin τ.nSub)

omit [FloatOps F] in
/-- Some members taken out of a family. -/
theorem take_out {ι κ : Type} [DecidableEq ι] [DecidableEq κ] (I : Finset ι) {g : κ → ι} (hg : Function.Injective g) (t : Finset κ)
    (h : ∀ a ∈ t, g a ∈ I) (Φ : ι → sProp 𝕄) :
    bigSep I Φ = iprop((bigSep t fun a => Φ (g a)) ∗ bigSep (I \ t.image g) Φ) := by
  have hs : t.image g ⊆ I := fun b hb => by
    obtain ⟨a, ha, rfl⟩ := Finset.mem_image.mp hb
    exact h a ha
  rw [← SparseCore.bigSep_image_of_injOn (hg.injOn) Φ, ← SparseCore.bigSep_union' Finset.disjoint_sdiff, Finset.union_sdiff_of_subset hs]

/-- A semaphore of the tile. -/
abbrev cell (s : DmaSem sig) : GSem nD τ sig := (V d c w, .dma s)

/-- The semaphores the program names, -/
abbrev sems5 : Finset (DmaSem sig) := {cc0_scratch7.sem, cc0_scratch8.sem, cc0_scratch9.sem, cc0_scratch10.sem, cc0_scoped0.sem}
/-- and the scratch buffers. -/
abbrev bufs7 : Finset (Ref sig .scVector) := {cc0_scratch0, cc0_scratch1, cc0_scratch2, cc0_scratch3, cc0_scratch4, cc0_scratch5, cc0_scratch6}

/-- The tile's other semaphores, all at zero. -/
def otherSems : sProp 𝕄 := bigSep (ownCells (V d c w) \ sems5.image (cell d c w)) fun g => semVal g 0

/-- The tile's other buffers. -/
def otherBufs : sProp 𝕄 :=
  bigSep (ownRefs (τ := τ) (.scVector c w) \ bufs7.image (Proc.devRef (.scVector c w))) fun b => iprop(∃ f, ((d, b) : Loc nD τ sig) ↦{fullShare} f)

omit [FloatOps F] in
/-- The five semaphores are among the tile's own. -/
theorem ownSems0_tile :
    (ownSems0 (V d c w) : sProp 𝕄)
      = iprop((semVal (cell d c w cc0_scratch7.sem) 0 ∗ semVal (cell d c w cc0_scratch8.sem) 0 ∗ semVal (cell d c w cc0_scratch9.sem) 0
          ∗ semVal (cell d c w cc0_scratch10.sem) 0 ∗ semVal (cell d c w cc0_scoped0.sem) 0) ∗ otherSems d c w) := by
  unfold SparseCore.Cfg.ownSems0 otherSems
  rw [take_out (ownCells (V d c w)) (g := cell d c w) (fun s s' e => SemLoc.dma.inj (Prod.mk.inj e).2) sems5
    (fun s hs => mem_ownCells.mpr ⟨rfl, by
      have : ∀ s ∈ sems5, (SemLoc.dma s : SemLoc sig).isScoped .scVector = true := by decide
      exact this s hs⟩)]
  rw [SparseCore.bigSep_insert' (by decide), SparseCore.bigSep_insert' (by decide), SparseCore.bigSep_insert' (by decide),
    SparseCore.bigSep_insert' (by decide), bigSep_singleton]

/-- A scratch buffer, at whatever it holds. -/
abbrev scratch (b : Ref sig .scVector) : sProp 𝕄 := iprop(∃ f, (V d c w).loc b ↦{fullShare} f)

omit [FloatOps F] in
/-- The seven buffers, one by one. -/
theorem seven (Φ : Ref sig .scVector → sProp 𝕄) :
    bigSep bufs7 Φ = iprop(Φ cc0_scratch0 ∗ Φ cc0_scratch1 ∗ Φ cc0_scratch2 ∗ Φ cc0_scratch3 ∗ Φ cc0_scratch4 ∗ Φ cc0_scratch5 ∗ Φ cc0_scratch6) := by
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
/-- The seven scratch buffers are among the tile's own. -/
theorem ownBufs_tile :
    (ownBufs (V d c w) : sProp 𝕄)
      = iprop((scratch (F := F) d c w cc0_scratch0 ∗ scratch (F := F) d c w cc0_scratch1 ∗ scratch (F := F) d c w cc0_scratch2
          ∗ scratch (F := F) d c w cc0_scratch3 ∗ scratch (F := F) d c w cc0_scratch4 ∗ scratch (F := F) d c w cc0_scratch5
          ∗ scratch (F := F) d c w cc0_scratch6) ∗ otherBufs (F := F) d c w) := by
  unfold SparseCore.Cfg.ownBufs otherBufs
  refine (take_out (ownRefs (τ := τ) (.scVector c w)) (g := Proc.devRef (.scVector c w)) (Proc.devRef_injective _) bufs7
    (fun b hb => SparseCore.Cfg.mem_ownRefs_of_owner (p := Proc.scVector c w) (by
      simp only [bufs7, Finset.mem_insert, Finset.mem_singleton] at hb
      rcases hb with rfl | rfl | rfl | rfl | rfl | rfl | rfl <;> rfl)) _).trans ?_
  exact congrArg (fun A : sProp 𝕄 => iprop(A ∗ _)) (seven fun b => scratch (F := F) d c w b)

theorem holds_of_scratch (b : Ref sig .scVector) (h : (Memref.whole b).view.set = (Finset.univ : Finset (Idx ((V d c w).loc b))) := by exact View.set_whole _) :
    scratch (F := F) d c w b ⊢ iprop(∃ v, Holds (F := F) d c w (Memref.whole b) v) := by
  unfold Holds
  iintro ⟨%f, H⟩
  iexists _
  iexists f
  isplitr
  swap
  · iapply (Entails.of_eq (congrArg (fun I => ((V d c w).loc b ↦[I]{fullShare} f : sProp 𝕄)) h.symm)) $$ H
  · ipureintro; rfl

theorem scratch_of_holds (b : Ref sig .scVector) (h : (Memref.whole b).view.set = (Finset.univ : Finset (Idx ((V d c w).loc b))) := by exact View.set_whole _) :
    iprop(∃ v, Holds (F := F) d c w (Memref.whole b) v) ⊢ scratch (F := F) d c w b := by
  unfold Holds
  iintro ⟨%v, %f, -, H⟩
  iexists f
  iapply (Entails.of_eq (congrArg (fun I => ((V d c w).loc b ↦[I]{fullShare} f : sProp 𝕄)) h)) $$ H

/-- The tile's buffers: images, targets and indices of the two sets, and the sums. -/
abbrev iA : Memref sig .scVector .vmem S128x65 .f32 := Memref.whole cc0_scratch0
abbrev tA : Memref sig .scVector .vmem S128x65 .f32 := Memref.whole cc0_scratch1
abbrev xA : Memref sig .scVector .vmem S64x128 .i32 := Memref.whole cc0_scratch2
abbrev iB : Memref sig .scVector .vmem S128x65 .f32 := Memref.whole cc0_scratch3
abbrev tB : Memref sig .scVector .vmem S128x65 .f32 := Memref.whole cc0_scratch4
abbrev xB : Memref sig .scVector .vmem S64x128 .i32 := Memref.whole cc0_scratch5
abbrev sums : Memref sig .scVector .vmem S16 .f32 := Memref.whole cc0_scratch6

omit [FloatOps F] in
/-- The same elements, named in another way. -/
theorem on_set {ℓ : Loc nD τ sig} {I J : Finset (Idx ℓ)} (h : I = J) {q : PosShare TreeShare} {f : Buf (Elt F) ℓ} :
    (ℓ ↦[I]{q} f : sProp 𝕄) ⊢ ℓ ↦[J]{q} f := Entails.of_eq (by rw [h])

variable (f2 : Buf (Elt F) (aLoc d)) (f3 : Buf (Elt F) (tLoc d)) (f4 : Buf (Elt F) (xLoc d)) (f5 : Buf (Elt F) (oLoc d))
  (O : CellTallies nD τ sig (HIx 1)) (W : Waits sig (HIx 1))

/-- The row a tile wrote holds what the whole output is meant to hold there. -/
theorem out_row :
    (oV.view.loc (V d (cV i) (sV i)) ↦[(rowOut oV i).view.set]{fullShare} (rowOut oV i).view.write (Elt F) f5
        (tileAcc (srcs d i aV tV xV f2 f3 f4).A (srcs d i aV tV xV f2 f3 f4).T (srcs d i aV tV xV f2 f3 f4).X (baseOf i) 32) Finset.univ : sProp 𝕄)
      ⊢ oLoc d ↦[(rowRect (rowIx i)).set]{fullShare} outVal f2 f3 f4 :=
  Entails.of_eq ((pointsTo_congr (row_written d i f2 f3 f4 f5)).trans
    (congrArg (fun I => (oLoc d ↦[I]{fullShare} (outVal f2 f3 f4) : sProp 𝕄)) (set_rowOut i)))

/-- The task on one tile. -/
theorem tile_body (hF : (K (F := F)).Facts) (hX : ∀ y, (f4 y : BitVec 32).toNat < 128) (hO : ∀ g, O g none = 0) :
    iprop(levAts (K (F := F)).L (K (F := F)).lev ∗ emp ∗ tileHas d i f2 f3 f4 f5
        ∗ scopedBufs (V d (cV i) (sV i)) ∗ scopedSems0 (V d (cV i) (sV i)) ∗ owes (V d (cV i) (sV i)) O W)
      ⊢ wp frame (wpE (defs₀ (F := F)) 𝒱₀ (V d (cV i) (sV i)) none) Set.univ
          (cc0_sc_kernel i aV (Memref.isWhole_whole _) tV (Memref.isWhole_whole _) xV (Memref.isWhole_whole _) oV (Memref.isWhole_whole _)
            iA (Memref.isWhole_whole _) tA (Memref.isWhole_whole _) xA (Memref.isWhole_whole _)
            iB (Memref.isWhole_whole _) tB (Memref.isWhole_whole _) xB (Memref.isWhole_whole _) sums (Memref.isWhole_whole _)
            cc0_scratch7 cc0_scratch8 cc0_scratch9 cc0_scratch10 cc0_scoped0)
          fun _ => iprop(tileHas d i f2 f3 f4 (outVal f2 f3 f4) ∗ scopedBufs (V d (cV i) (sV i)) ∗ scopedSems0 (V d (cV i) (sV i))
            ∗ ∃ W', ⌜∀ p ∈ W', p ∈ W ∨ p.2 = none⌝ ∗ owes (V d (cV i) (sV i)) O W') := by
  have hs : (leftOf tA).view.dmaCredit = (leftOf iA).view.dmaCredit := rfl
  have hs' : (leftOf tB).view.dmaCredit = (leftOf iB).view.dmaCredit := rfl
  have ea : (aV.view.set : Finset (Idx (aLoc d))) = Finset.univ := View.set_whole _
  have et : (tV.view.set : Finset (Idx (tLoc d))) = Finset.univ := View.set_whole _
  have ex : (xV.view.set : Finset (Idx (xLoc d))) = Finset.univ := View.set_whole _
  rw [(K (F := F)).scopedBufs_V hF d (cV i) (sV i), SparseCore.Cfg.scopedSems0_V (Val := Elt F) d (cV i) (sV i), ownSems0_tile, ownBufs_tile]
  iintro ⟨#Hlv, -, Hhas, ⟨⟨B0, B1, B2, B3, B4, B5, B6⟩, Hbufs⟩, ⟨⟨S0, S1, S2, S3, S4⟩, Hsems⟩, HO⟩
  ihave Hmw := ((K (F := F)).mayWaits_none (thr := V d (cV i) (sV i)) hO) $$ Hlv
  unfold tileHas
  icases Hhas with ⟨⟨Ha, Ha'⟩, ⟨Ht, Ht'⟩, ⟨Hx, Hx'⟩, Ho⟩
  iapply (wp_wand_r frame _ Set.univ)
  isplitl [B0 B1 B2 B3 B4 B5 B6 S0 S1 S2 S3 S4 HO Hmw Ha Ha' Ht Ht' Hx Hx' Ho]
  · iapply (tile_run d i aV _ tV _ xV _ oV _ iA _ tA _ xA _ iB _ tB _ xB _ sums _ cc0_scratch7 cc0_scratch8 cc0_scratch9 cc0_scratch10 cc0_scoped0
      hs hs' f2 f3 f4 f5 (lent i).left (lent i).right O W hX)
    unfold Quiet Free
    isplitl [Hmw]; · iexact Hmw
    isplitl [S0 S2 Ha Ht Hx B0 B1 B2]
    · isplitl [S0 S2 Ha Ht Hx]
      · isplitl [S0]; · iexact S0
        isplitl [S2]; · iexact S2
        isplitl [Ha]; · iapply (on_set ea.symm) $$ Ha
        isplitl [Ht]; · iapply (on_set et.symm) $$ Ht
        iapply (on_set ex.symm) $$ Hx
      · isplitl [B0]; · iapply (holds_of_scratch d (cV i) (sV i) cc0_scratch0) $$ B0
        isplitl [B1]; · iapply (holds_of_scratch d (cV i) (sV i) cc0_scratch1) $$ B1
        iapply (holds_of_scratch d (cV i) (sV i) cc0_scratch2) $$ B2
    isplitl [S1 S3 Ha' Ht' Hx' B3 B4 B5]
    · isplitl [S1 S3 Ha' Ht' Hx']
      · isplitl [S1]; · iexact S1
        isplitl [S3]; · iexact S3
        isplitl [Ha']; · iapply (on_set ea.symm) $$ Ha'
        isplitl [Ht']; · iapply (on_set et.symm) $$ Ht'
        iapply (on_set ex.symm) $$ Hx'
      · isplitl [B3]; · iapply (holds_of_scratch d (cV i) (sV i) cc0_scratch3) $$ B3
        isplitl [B4]; · iapply (holds_of_scratch d (cV i) (sV i) cc0_scratch4) $$ B4
        iapply (holds_of_scratch d (cV i) (sV i) cc0_scratch5) $$ B5
    isplitl [B6]; · iapply (holds_of_scratch d (cV i) (sV i) cc0_scratch6) $$ B6
    isplitl [S4]; · iexact S4
    isplitl [Ho]; · iapply (on_set (set_rowOut i).symm) $$ Ho
    iexact HO
  unfold Quiet Free Owing
  iintro %_ ⟨⟨⟨S0, S2, Ha, Ht, Hx⟩, B0, B1, B2⟩, ⟨⟨S1, S3, Ha', Ht', Hx'⟩, B3, B4, B5⟩, B6, S4, Ho, HO⟩
  isplitl [Ha Ha' Ht Ht' Hx Hx' Ho]
  · isplitl [Ha Ha']
    · isplitl [Ha]; · iapply (on_set ea) $$ Ha
      iapply (on_set ea) $$ Ha'
    isplitl [Ht Ht']
    · isplitl [Ht]; · iapply (on_set et) $$ Ht
      iapply (on_set et) $$ Ht'
    isplitl [Hx Hx']
    · isplitl [Hx]; · iapply (on_set ex) $$ Hx
      iapply (on_set ex) $$ Hx'
    iapply (out_row d i f2 f3 f4 f5) $$ Ho
  isplitl [B0 B1 B2 B3 B4 B5 B6 Hbufs]
  · isplitr [Hbufs]
    · isplitl [B0]; · iapply (scratch_of_holds d (cV i) (sV i) cc0_scratch0) $$ B0
      isplitl [B1]; · iapply (scratch_of_holds d (cV i) (sV i) cc0_scratch1) $$ B1
      isplitl [B2]; · iapply (scratch_of_holds d (cV i) (sV i) cc0_scratch2) $$ B2
      isplitl [B3]; · iapply (scratch_of_holds d (cV i) (sV i) cc0_scratch3) $$ B3
      isplitl [B4]; · iapply (scratch_of_holds d (cV i) (sV i) cc0_scratch4) $$ B4
      isplitl [B5]; · iapply (scratch_of_holds d (cV i) (sV i) cc0_scratch5) $$ B5
      iapply (scratch_of_holds d (cV i) (sV i) cc0_scratch6) $$ B6
    · iexact Hbufs
  isplitl [S0 S1 S2 S3 S4 Hsems]
  · isplitr [Hsems]
    · isplitl [S0]; · iexact S0
      isplitl [S1]; · iexact S1
      isplitl [S2]; · iexact S2
      isplitl [S3]; · iexact S3
      iexact S4
    · iexact Hsems
  iexact HO

end Cert.Proof
-- ==== Proof.Launch.lean ====
/-
  The launch. The one call takes the four arrays whole, deals every tile its part of them, and takes back the same with
  the output at its final value. What the three input arrays hold at the call is the program's arguments, reshaped.
-/
module

public import proofs.«01_k».proof.Proof.Task

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-- The input images, the target images and the indices as the call is given them: one leading axis in place of two. -/
def inA (d : Dev nD) : Buf (Elt F) (aLoc d) :=
  shapeCast S1024x128x128 (m ((SparseCore.T d).loc main_arg0) : Vec F S32x32x1x128x128 .f32) shapeCasts_S32x32x1x128x128_S1024x128x128
def inT (d : Dev nD) : Buf (Elt F) (tLoc d) :=
  shapeCast S1024x128x128 (m ((SparseCore.T d).loc main_arg1) : Vec F S32x32x1x128x128 .f32) shapeCasts_S32x32x1x128x128_S1024x128x128
def inX (d : Dev nD) : Buf (Elt F) (xLoc d) :=
  shapeCast S1024x64x128 (m ((SparseCore.T d).loc main_arg2) : Vec F S32x32x64x128 .i32) shapeCasts_S32x32x64x128_S1024x64x128

/-- Every index names a position of an image's last axis but one. -/
def PreOK : Prop := ∀ (d : Dev nD) (y : S32x32x64x128.Idx), ((m ((SparseCore.T d).loc main_arg2) : S32x32x64x128.Idx → BitVec 32) y).toNat < 128

omit [FloatOps F] in
theorem inX_lt (hpre : PreOK m) (d : Dev nD) : ∀ y, (inX m d y : BitVec 32).toNat < 128 := fun _ => hpre d _

/-- What a tile is handed, and what it hands back. -/
abbrev given (d : Dev nD) (c : Fin 2) (s : Fin 16) : sProp 𝕄 :=
  tileHas d (tileAt c s) (inA m d) (inT m d) (inX m d) (m (oLoc d))
abbrev handed (d : Dev nD) (c : Fin 2) (s : Fin 16) : sProp 𝕄 :=
  tileHas d (tileAt c s) (inA m d) (inT m d) (inX m d) (outVal (inA m d) (inT m d) (inX m d))

omit [FloatOps F] in
theorem cores_two : (K (F := F)).nCore 0 = 2 := rfl
omit [FloatOps F] in
theorem tiles_sixteen : (K (F := F)).nSub 0 = 16 := rfl

/-- What the call's handshakes carry. -/
def P : (K (F := F)).Pay (nD := nD) (Val := Elt F) (Name := ℕ) (U := UU) where
  st := fun q d c => match q with | 0 => bigSep (Finset.univ : Finset (Fin 16)) fun s => given m d (Fin.cast cores_two c) s
  dn := fun q d c => match q with | 0 => bigSep (Finset.univ : Finset (Fin 16)) fun s => handed m d (Fin.cast cores_two c) s
  go := fun q d c i => match q with | 0 => given m d (Fin.cast cores_two c) (Fin.cast tiles_sixteen i)
  td := fun q d c i => match q with | 0 => handed m d (Fin.cast cores_two c) (Fin.cast tiles_sixteen i)
  x := fun _ _ => iprop(emp)

instance P_storable : (P (F := F) m).IsStorable where
  st q d c := match q with
    | 0 => (inferInstance : BI.Storable (upEmb : UEmb _ 𝕄) (bigSep (Finset.univ : Finset (Fin 16)) fun s => given m d (Fin.cast cores_two c) s))
  dn q d c := match q with
    | 0 => (inferInstance : BI.Storable (upEmb : UEmb _ 𝕄) (bigSep (Finset.univ : Finset (Fin 16)) fun s => handed m d (Fin.cast cores_two c) s))
  go q d c i := match q with
    | 0 => (inferInstance : BI.Storable (upEmb : UEmb _ 𝕄) (given m d (Fin.cast cores_two c) (Fin.cast tiles_sixteen i)))
  td q d c i := match q with
    | 0 => (inferInstance : BI.Storable (upEmb : UEmb _ 𝕄) (handed m d (Fin.cast cores_two c) (Fin.cast tiles_sixteen i)))

theorem defs₀_vector (c : Fin τ.nSC) (s : Fin τ.nSub) :
    defs₀ (F := F) (.scVector c s) 0 ()
      = SparseCore.onTile hcore0 hsub0 (fun c s => cc0_sc_kernel (tileAt c s)
          aV (Memref.isWhole_whole _) tV (Memref.isWhole_whole _) xV (Memref.isWhole_whole _) oV (Memref.isWhole_whole _)
          iA (Memref.isWhole_whole _) tA (Memref.isWhole_whole _) xA (Memref.isWhole_whole _)
          iB (Memref.isWhole_whole _) tB (Memref.isWhole_whole _) xB (Memref.isWhole_whole _) sums (Memref.isWhole_whole _)
          cc0_scratch7 cc0_scratch8 cc0_scratch9 cc0_scratch10 cc0_scoped0) ⟨⟩ c s := rfl

omit [FloatOps F] in
/-- A task's waits, weakened to what the launch allows. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

/-- Every tile's task meets the call's terms. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (tileAt ⟨_, hc.1⟩ ⟨_, hc.2⟩) (inA m d) (inT m d) (inX m d) (m (oLoc d)) O W hF (inX_lt m hpre d) hO).trans
    (wp_mono frame _ _ fun _ => waits_weaken)

omit [FloatOps F] in
theorem over_tiles (Φ : Fin 16 → sProp 𝕄) :
    (bigSep Finset.univ fun i : Fin ((K (F := F)).nSub 0) => Φ (Fin.cast tiles_sixteen i)) = bigSep Finset.univ Φ :=
  bigSep_congr fun _ _ => congrArg Φ (Fin.ext rfl)

omit [FloatOps F] in
theorem over_cores (Φ : Fin 2 → sProp 𝕄) :
    (bigSep Finset.univ fun c : Fin ((K (F := F)).nCore 0) => Φ (Fin.cast cores_two c)) = bigSep Finset.univ Φ :=
  bigSep_congr fun _ _ => congrArg Φ (Fin.ext rfl)

/-- A core's part of the arrays is its tiles' parts, going and coming back. -/
theorem vecSplit : (K (F := F)).VecSplit' (P m) 0 := by
  intro d c
  show (bigSep (Finset.univ : Finset (Fin 16)) fun s => given m d (Fin.cast cores_two c) s) ⊢ |={Set.univ}=> iprop(
      (bigSep Finset.univ fun i : Fin ((K (F := F)).nSub 0) => given m d (Fin.cast cores_two c) (Fin.cast tiles_sixteen i))
      ∗ ((bigSep Finset.univ fun i : Fin ((K (F := F)).nSub 0) => handed m d (Fin.cast cores_two c) (Fin.cast tiles_sixteen i))
          -∗ bigSep (Finset.univ : Finset (Fin 16)) fun s => handed m d (Fin.cast cores_two c) s))
  rw [over_tiles (F := F) (fun s => given m d (Fin.cast cores_two c) s), over_tiles (F := F) (fun s => handed m d (Fin.cast cores_two c) s)]
  iintro H
  imodintro
  isplitl [H]; · iexact H
  iintro H
  iexact H

/-- The four arrays whole are what the call is given, and what it gives back. -/
theorem st_whole (d : Dev nD) : (bigSep Finset.univ fun c : Fin ((K (F := F)).nCore 0) => (P m).st 0 d c)
    = (iprop((aLoc d ↦{fullShare} inA m d) ∗ (tLoc d ↦{fullShare} inT m d) ∗ (xLoc d ↦{fullShare} inX m d) ∗ oLoc d ↦{fullShare} m (oLoc d)) : sProp 𝕄) :=
  (over_cores (F := F) fun c => bigSep (Finset.univ : Finset (Fin 16)) fun s => given m d c s).trans
    (all_tiles d (inA m d) (inT m d) (inX m d) (m (oLoc d)))
theorem dn_whole (d : Dev nD) : (bigSep Finset.univ fun c : Fin ((K (F := F)).nCore 0) => (P m).dn 0 d c)
    = (iprop((aLoc d ↦{fullShare} inA m d) ∗ (tLoc d ↦{fullShare} inT m d) ∗ (xLoc d ↦{fullShare} inX m d)
        ∗ oLoc d ↦{fullShare} outVal (inA m d) (inT m d) (inX m d)) : sProp 𝕄) :=
  (over_cores (F := F) fun c => bigSep (Finset.univ : Finset (Fin 16)) fun s => handed m d c s).trans
    (all_tiles d (inA m d) (inT m d) (inX m d) (outVal (inA m d) (inT m d) (inX m d)))

/-- The launch's own state: the handshakes' rounds and nothing else. -/
def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_nothing]; iempintro
  unfold P; dsimp only
  rw [show (bigSep Finset.univ fun _ : Thread nD τ => bigSep Finset.univ fun _ : Fin 1 => (iprop(emp) : sProp 𝕄)) = iprop(emp) from by
    rw [bigSep_congr fun _ _ => bigSep_nothing _, bigSep_nothing]]
  iempintro

end Cert.Proof

end
-- ==== Proof.Main.lean ====
/-
  The whole program. Three reshapes, the call, the sum of the thirty-two rows and the division; then the run of every
  thread, from the launch to the end.
-/
module

public import proofs.«01_k».proof.Proof.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within after)

variable {F : FTy → Type} [FloatOps F]

local notation "𝕄" => MT nD τ sig (HIx 1) (Elt F) ℕ UU ℕ

variable (m : (ℓ : Loc nD τ sig) → Buf (Elt F) ℓ) (ρ : Dev nD → PrngReg)

/-- What the program returns: the sum of the tiles' rows, divided by the number of elements. -/
def result (d : Dev nD) : Buf (Elt F) ((SparseCore.T d : Thread nD τ).loc main_v5) :=
  (Host.divf (Host.reduceAdd (outVal (inA m d) (inT m d) (inX m d) : Vec F S32x16 .f32) (constant S_ .f32 0x00000000#32) reducesTo_S32x16_S_d0_1 h_S_)
    (constant S_ .f32 0x4B000000#32) : Vec F S_ .f32)

abbrev arg0' : DevRef τ sig := Proc.devRef .tc (main_arg0 : Ref sig .tc)
abbrev arg1' : DevRef τ sig := Proc.devRef .tc (main_arg1 : Ref sig .tc)
abbrev arg2' : DevRef τ sig := Proc.devRef .tc (main_arg2 : Ref sig .tc)
abbrev a' : DevRef τ sig := Proc.devRef .tc (main_v0 : Ref sig .tc)
abbrev t' : DevRef τ sig := Proc.devRef .tc (main_v1 : Ref sig .tc)
abbrev x' : DevRef τ sig := Proc.devRef .tc (main_v2 : Ref sig .tc)
abbrev o' : DevRef τ sig := Proc.devRef .tc (main_v3 : Ref sig .tc)
abbrev zero' : DevRef τ sig := Proc.devRef .tc (main_cst : Ref sig .tc)
abbrev total' : DevRef τ sig := Proc.devRef .tc (main_v4 : Ref sig .tc)
abbrev count' : DevRef τ sig := Proc.devRef .tc (main_cst_0 : Ref sig .tc)
abbrev res' : DevRef τ sig := Proc.devRef .tc (main_v5 : Ref sig .tc)

/-- The arrays of the TensorCore's program: those the call does not touch, and all. -/
abbrev rest : Finset (DevRef τ sig) := {arg0', arg1', arg2', zero', total', count', res'}
abbrev arrays : Finset (DevRef τ sig) := insert a' (insert t' (insert x' (insert o' rest)))
/-- Those the claim says nothing of. -/
abbrev others : Finset (DevRef τ sig) := {a', t', x', o', zero', total', count'}

abbrev opA : HloOp τ sig (Elt F) := StableHlo.reshape main_arg0 main_v0 (rfl : (.f32 : EltTy) = .f32) shapeCasts_S32x32x1x128x128_S1024x128x128
abbrev opT : HloOp τ sig (Elt F) := StableHlo.reshape main_arg1 main_v1 (rfl : (.f32 : EltTy) = .f32) shapeCasts_S32x32x1x128x128_S1024x128x128
abbrev opX : HloOp τ sig (Elt F) := StableHlo.reshape main_arg2 main_v2 (rfl : (.i32 : EltTy) = .i32) shapeCasts_S32x32x64x128_S1024x64x128
abbrev opZero : HloOp τ sig (Elt F) := StableHlo.nullary main_cst (constant S_ .f32 0x00000000#32)
abbrev opSum : HloOp τ sig (Elt F) := StableHlo.binary main_v3 main_cst main_v4
  ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))
abbrev opCount : HloOp τ sig (Elt F) := StableHlo.nullary main_cst_0 (constant S_ .f32 0x4B000000#32)
abbrev opDiv : HloOp τ sig (Elt F) := StableHlo.binary main_v4 main_cst_0 main_v5
  (Host.divf : (⟨S_, .f32⟩ : BufTy).Contents (Elt F) → (⟨S_, .f32⟩ : BufTy).Contents (Elt F) → (⟨S_, .f32⟩ : BufTy).Contents (Elt F))

/-- What the arrays hold at the launch, before the call, after it, and at the end. -/
def atStart (d : Dev nD) : Valuation τ sig (Elt F) := fun b => m (d, b)
abbrev before (d : Dev nD) : Valuation τ sig (Elt F) := (opX (F := F)).result ((opT (F := F)).result ((opA (F := F)).result (atStart m d)))
abbrev called (d : Dev nD) : Valuation τ sig (Elt F) := Function.update (before m d) o' (outVal (inA m d) (inT m d) (inX m d))
abbrev atEnd (d : Dev nD) : Valuation τ sig (Elt F) :=
  (opDiv (F := F)).result ((opCount (F := F)).result ((opSum (F := F)).result ((opZero (F := F)).result (called m d))))

/-- The same, as what a line of operations leaves. -/
theorem before_line (d : Dev nD) : before m d = after [opA, opT, opX] (atStart m d) := rfl
theorem atEnd_line (d : Dev nD) : atEnd m d = after [opZero, opSum, opCount, opDiv] (called m d) := rfl

theorem before_a (d : Dev nD) : before m d a' = inA m d := by
  rw [before_line]; after_results; rfl
theorem before_t (d : Dev nD) : before m d t' = inT m d := by
  rw [before_line]; after_results; rfl
theorem before_x (d : Dev nD) : before m d x' = inX m d := by
  rw [before_line]; after_results; rfl
theorem before_o (d : Dev nD) : before m d o' = m (oLoc d) := by
  rw [before_line]; after_results; rfl
theorem called_o (d : Dev nD) : called m d o' = outVal (inA m d) (inT m d) (inX m d) := Function.update_self _ _ _
theorem called_of_ne (d : Dev nD) {b : DevRef τ sig} (h : b ≠ o') : called m d b = before m d b := Function.update_of_ne h _ _

theorem atEnd_arg0 (d : Dev nD) : atEnd m d arg0' = m ((SparseCore.T d).loc main_arg0) := by
  rw [atEnd_line]; after_results; rw [called_of_ne m d (show arg0' ≠ o' by decide)]; rw [before_line]; after_results; rfl
theorem atEnd_arg1 (d : Dev nD) : atEnd m d arg1' = m ((SparseCore.T d).loc main_arg1) := by
  rw [atEnd_line]; after_results; rw [called_of_ne m d (show arg1' ≠ o' by decide)]; rw [before_line]; after_results; rfl
theorem atEnd_arg2 (d : Dev nD) : atEnd m d arg2' = m ((SparseCore.T d).loc main_arg2) := by
  rw [atEnd_line]; after_results; rw [called_of_ne m d (show arg2' ≠ o' by decide)]; rw [before_line]; after_results; rfl
theorem atEnd_res (d : Dev nD) : atEnd m d res' = result m d := by
  rw [atEnd_line]; after_results; rw [called_o]; rfl

omit [FloatOps F] in
/-- All the arrays held are the call's four and the rest. -/
theorem held_call (d : Dev nD) (W : Valuation τ sig (Elt F)) :
    (held (T d) arrays W : sProp 𝕄) = iprop((aLoc d ↦{fullShare} W a') ∗ (tLoc d ↦{fullShare} W t') ∗ (xLoc d ↦{fullShare} W x')
      ∗ (oLoc d ↦{fullShare} W o') ∗ held (T d) rest W) := by
  unfold held arrays
  rw [SparseCore.bigSep_insert' (by decide), SparseCore.bigSep_insert' (by decide), SparseCore.bigSep_insert' (by decide), SparseCore.bigSep_insert' (by decide)]

omit [FloatOps F] in
/-- All the arrays held are the claim's four and the others. -/
theorem held_claim (d : Dev nD) (W : Valuation τ sig (Elt F)) :
    (held (T d) arrays W : sProp 𝕄) = iprop(((SparseCore.T d).loc main_arg0 ↦{fullShare} W arg0') ∗ ((SparseCore.T d).loc main_arg1 ↦{fullShare} W arg1')
      ∗ ((SparseCore.T d).loc main_arg2 ↦{fullShare} W arg2') ∗ ((SparseCore.T d).loc main_v5 ↦{fullShare} W res') ∗ held (T d) others W) := by
  unfold held
  rw [show arrays = insert arg0' (insert arg1' (insert arg2' (insert res' others))) by decide,
    SparseCore.bigSep_insert' (by decide), SparseCore.bigSep_insert' (by decide), SparseCore.bigSep_insert' (by decide), SparseCore.bigSep_insert' (by decide)]

/-- The call changes none of the rest. -/
theorem rest_called (d : Dev nD) : (held (T d) rest (called m d) : sProp 𝕄) = held (T d) rest (before m d) := by
  unfold held
  refine bigSep_congr fun b hb => ?_
  rw [called_of_ne m d (fun h => absurd (h ▸ hb) (by decide))]

omit [FloatOps F] in
theorem unscopedBufs_held (d : Dev nD) : (unscopedBufs d (fun b => m ((SparseCore.T d).loc b)) : sProp 𝕄) = held (T d) arrays (atStart m d) := by
  unfold unscopedBufs
  rw [show (Finset.univ.filter fun b : Ref sig .tc => ¬ b.isScoped)
      = {main_v0, main_v1, main_v2, main_v3, main_arg0, main_arg1, main_arg2, main_cst, main_v4, main_cst_0, main_v5} by decide]
  unfold held arrays rest
  iterate 10 rw [SparseCore.bigSep_insert' (by decide)]
  iterate 10 rw [SparseCore.bigSep_insert' (by decide)]
  rw [bigSep_singleton, bigSep_singleton]
  rfl

theorem hA : (opA (F := F)).bufs ⊆ arrays := show ({arg0', a'} : Finset (DevRef τ sig)) ⊆ arrays by decide
theorem hT : (opT (F := F)).bufs ⊆ arrays := show ({arg1', t'} : Finset (DevRef τ sig)) ⊆ arrays by decide
theorem hX : (opX (F := F)).bufs ⊆ arrays := show ({arg2', x'} : Finset (DevRef τ sig)) ⊆ arrays by decide
theorem hZero : (opZero (F := F)).bufs ⊆ arrays := show ({zero'} : Finset (DevRef τ sig)) ⊆ arrays by decide
theorem hSum : (opSum (F := F)).bufs ⊆ arrays := show ({o', zero', total'} : Finset (DevRef τ sig)) ⊆ arrays by decide
theorem hCount : (opCount (F := F)).bufs ⊆ arrays := show ({count'} : Finset (DevRef τ sig)) ⊆ arrays by decide
theorem hDiv : (opDiv (F := F)).bufs ⊆ arrays := show ({total', count', res'} : Finset (DevRef τ sig)) ⊆ arrays by decide

/-- What the TensorCore's program leaves the claim: the arguments as they were, and the result. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ (SparseCore.T d).loc main_v5 ↦{fullShare} result m d)

/-- The TensorCore's program, run. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_held]
  simp only [main, wp_bind, wp_pure]
  iintro ⟨#Hctx, Hst, ⟨Hb, Hheld, Hts, -⟩, -⟩
  iapply (wp_hlo_within 𝒱 (SparseCore.T d) none Set.univ (op := opA) (S := arrays) hA (V := atStart m d)) $$ [Hb Hheld]
  · isplitl [Hb] <;> iassumption
  iintro ⟨Hb, Hheld⟩
  rw [wp_ret]; imodintro
  iapply (wp_hlo_within 𝒱 (SparseCore.T d) none Set.univ (op := opT) (S := arrays) hT (V := (opA (F := F)).result (atStart m d))) $$ [Hb Hheld]
  · isplitl [Hb] <;> iassumption
  iintro ⟨Hb, Hheld⟩
  rw [wp_ret]; imodintro
  iapply (wp_hlo_within 𝒱 (SparseCore.T d) none Set.univ (op := opX) (S := arrays) hX (V := (opT (F := F)).result ((opA (F := F)).result (atStart m d)))) $$ [Hb Hheld]
  · isplitl [Hb] <;> iassumption
  iintro ⟨Hb, Hheld⟩
  rw [wp_ret]; imodintro
  ihave Hh := (Entails.of_eq (held_call (F := F) d _)) $$ Hheld
  icases Hh with ⟨Ha, Ht, Hx, Ho, Hr⟩
  iapply ((K (F := F)).wp_run (D (F := F)) 𝒱 (EH := EH) (P := P m) κ d 0) $$ [Hst Ha Ht Hx Ho Hb Hr Hts]
  isplitr; · iexact Hctx
  isplitl [Hst]; · iexact Hst
  isplitl [Ha Ht Hx Ho]
  · rw [st_whole, ← before_a m d, ← before_t m d, ← before_x m d, ← before_o m d]
    isplitl [Ha]; · iexact Ha
    isplitl [Ht]; · iexact Ht
    isplitl [Hx]; · iexact Hx
    iexact Ho
  iintro ⟨Hst, Hdn⟩
  ihave Hdn' := (Entails.of_eq (dn_whole m d)) $$ Hdn
  icases Hdn' with ⟨Ha, Ht, Hx, Ho⟩
  iapply (wp_hlo_within 𝒱 (SparseCore.T d) none Set.univ (op := opZero) (S := arrays) hZero (V := called m d)) $$ [Hb Ha Ht Hx Ho Hr]
  · isplitl [Hb]; · iexact Hb
    rw [held_call, rest_called, called_o, called_of_ne m d (show a' ≠ o' by decide), called_of_ne m d (show t' ≠ o' by decide),
      called_of_ne m d (show x' ≠ o' by decide), before_a, before_t, before_x]
    isplitl [Ha]; · iexact Ha
    isplitl [Ht]; · iexact Ht
    isplitl [Hx]; · iexact Hx
    isplitl [Ho]; · iexact Ho
    iexact Hr
  iintro ⟨Hb, Hheld⟩
  rw [wp_ret]; imodintro
  iapply (wp_hlo_within 𝒱 (SparseCore.T d) none Set.univ (op := opSum) (S := arrays) hSum (V := (opZero (F := F)).result (called m d))) $$ [Hb Hheld]
  · isplitl [Hb] <;> iassumption
  iintro ⟨Hb, Hheld⟩
  rw [wp_ret]; imodintro
  iapply (wp_hlo_within 𝒱 (SparseCore.T d) none Set.univ (op := opCount) (S := arrays) hCount (V := (opSum (F := F)).result ((opZero (F := F)).result (called m d)))) $$ [Hb Hheld]
  · isplitl [Hb] <;> iassumption
  iintro ⟨Hb, Hheld⟩
  rw [wp_ret]; imodintro
  iapply (wp_hlo_within 𝒱 (SparseCore.T d) none Set.univ (op := opDiv) (S := arrays) hDiv (V := (opCount (F := F)).result ((opSum (F := F)).result ((opZero (F := F)).result (called m d))))) $$ [Hb Hheld]
  · isplitl [Hb] <;> iassumption
  iintro ⟨Hb, Hheld⟩
  ihave Hh := (Entails.of_eq (held_claim (F := F) d (atEnd m d))) $$ Hheld
  rw [atEnd_arg0, atEnd_arg1, atEnd_arg2, atEnd_res]
  icases Hh with ⟨H0, H1, H2, H5, -⟩
  rw [wp_ret]; imodintro; imodintro
  isplitl [Hst]; · iexact Hst
  isplitr [Hb Hts]
  · isplitl [H0]; · iexact H0
    isplitl [H1]; · iexact H1
    isplitl [H2]; · iexact H2
    iexact H5
  isplitl [Hb] <;> iassumption

/-- What the claims ask of a device's memory at the end. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_v5) = result m d

theorem hfin (d : Dev nD) (s' : Phys nD τ sig (Elt F)) : iprop(FIN m d ∗ SI s') ⊢ (⌜fq m d s'⌝ : sProp 𝕄) := by
  iintro ⟨⟨H0, H1, H2, H5⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI H2]
  · isplitl [HSI] <;> iassumption
  icases H with ⟨%h2, HSI, -⟩
  ihave H := (SI_pointsTo_agree (st := s') (ℓ := (SparseCore.T d).loc main_v5) (I := Finset.univ) (q := fullShare) (f := result m d)) $$ [HSI H5]
  · isplitl [HSI] <;> iassumption
  icases H with %h5
  ipureintro
  exact ⟨funext fun i => h0 i (Finset.mem_univ i), funext fun i => h1 i (Finset.mem_univ i), funext fun i => h2 i (Finset.mem_univ i),
    funext fun i => h5 i (Finset.mem_univ i)⟩

/-- What the claims ask of the memory at the end: on every device, and every semaphore back at zero. -/
def QC : PUnit × MemSt nD τ sig (Elt F) → Prop := fun r =>
  (∀ d : Dev nD, r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2) ∧ r.2.mem ((SparseCore.T d).loc main_v5) = result m d)
  ∧ r.2.sem = fun _ => 0

/-- Every run of the program, from a launch whose indices are in range, ends well: the arguments unchanged, the result
    as said, every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) Cert.Proof.facts v₀
    (fun q hq => match q with | 0 => nomatch hq)
    (fun q _ => match q with | 0 => tileObl m Cert.Proof.facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof

end
-- ==== Proof.Range.lean ====
/-
  What the precondition says: every index, read as a natural number, is below 128.
-/
module

public import proofs.«01_k».proof.Proof.Gen.Pre_in_range
public import Idealize.ShloMosaic.Lib.ReduceAll
public import Idealize.ShloMosaic.Lib.Affine

@[expose] public section

noncomputable section

namespace Cert.Proof

open Idealize.ShloMosaic

/-- A word that is at least 0 and at most `n`, read signed, is at most `n` read unsigned. -/
theorem toNat_le_of_signed (x : BitVec 32) (n : ℕ) (hn : n < 2 ^ 31) (h0 : (0#32).toInt ≤ x.toInt) (h1 : x.toInt ≤ (BitVec.ofNat 32 n).toInt) :
    x.toNat ≤ n := by
  have hx := x.isLt
  have e0 : (0#32 : BitVec 32).toInt = 0 := by decide
  rw [e0] at h0
  rw [BitVec.toInt_eq_toNat_cond] at h0 h1
  rw [BitVec.toInt_eq_toNat_cond, BitVec.toNat_ofNat] at h1
  have : n % 2 ^ 32 = n := Nat.mod_eq_of_lt (by omega)
  rw [this] at h1
  split at h1 <;> split at h1 <;> omega

variable {F : FTy → Type} [FloatOps F]

/-- Where the precondition holds, every index is below 128. -/
theorem index_lt (A T : FVec F Cert.Pre_in_range.S32x32x1x128x128 .f32) (X : IVec Cert.Pre_in_range.S32x32x64x128 32)
    (h : Cert.Pre_in_range.fn (F := F) A T X = fun _ => 1#1) (y : Cert.Pre_in_range.S32x32x64x128.Idx) : (X y).toNat < 128 := by
  have h' := congrFun h (fun a => a.elim0)
  dsimp only [Cert.Pre_in_range.fn] at h'
  have e := Host.reduce_andi_all _ _ _ _ _ h' y
  obtain ⟨e0, e1⟩ := IntOp.andi_eq_one.1 (show IntOp.andi (IntOp.cmpi .sge (X y) 0#32) (IntOp.cmpi .slt (X y) 128#32) = 1#1 from e)
  have h0 := IntOp.cmpi_sge.1 e0
  have h1 := IntOp.cmpi_slt.1 e1
  have := toNat_le_of_signed (X y) 127 (by decide) h0 (by
    have e128 : (128#32 : BitVec 32).toInt = 128 := by decide
    have e127 : (BitVec.ofNat 32 127).toInt = 127 := by decide
    rw [e128] at h1; rw [e127]; omega)
  omega

end Cert.Proof

end
-- ==== Proof.RefValue.lean ====
/-
  What the reference computes: the sum, over every pair of images, channel and position, of the squared difference of
  the two images at the row the index names, divided by the number of terms.

  The reference wraps a negative index, reads the row with the index clamped, and puts a NaN where the index is out of
  range. With every index in range none of the three does anything, which is what the lemmas here say.
-/
module

public import proofs.«01_k».proof.Proof.Gen.ReferenceIdeal.Run
public import proofs.«01_k».proof.Proof.Range
public import Idealize.ShloMosaic.Lib.ValueLayout
public import Idealize.ShloMosaic.Lib.Pipeline.Value
public import Idealize.ShloMosaic.Lib.IdealHost

@[expose] public section

noncomputable section

namespace Cert.Proof.Ref

open Cert.ReferenceIdeal Cert.ReferenceIdeal.Gen
open Idealize.ShloMosaic Idealize.ShloMosaic.ValueIdx

variable {F : FTy → Type} [FloatOps F]

/-- An image array as the reference reads it: `img A` at `(b, n, i, q)` is row `q`, channel `i` of image `(b, n)`. -/
def img (A : FVec F S32x32x1x128x128 .f32) : FVec F S32x32x64x128 .f32 :=
  extractStridedSlice S32x32x64x128 ![0, 0, 0, 0] (transpose S32x32x128x128 [0, 1, 3, 2] (shapeCast _ A shapeCasts_S32x32x1x128x128_S32x32x128x128) transposes_S32x32x128x128_S32x32x128x128_0_1_3_2) slices_S32x32x128x128_S32x32x64x128_0_0_0_0

/-- The indices with the negative ones wrapped, and a unit axis added. -/
def wrapped (X : IVec S32x32x64x128 32) : IVec S32x32x64x128x1 32 :=
  shapeCast _ (select (cmpi .slt X (broadcastInDim S32x32x64x128 ![] bcast_S_S32x32x64x128 (constantI S_ 32 0#32))) (addi X (broadcastInDim S32x32x64x128 ![] bcast_S_S32x32x64x128 (constantI S_ 32 128#32))) X) shapeCasts_S32x32x64x128_S32x32x64x128x1

/-- Where the wrapped index is in range. -/
def okMask (X : IVec S32x32x64x128 32) : IVec S32x32x64x128 1 :=
  Host.reduce IntOp.andi (andi (cmpi .sge (wrapped X) (broadcastInDim S32x32x64x128x1 ![] bcast_S_S32x32x64x128x1 (constantI S_ 32 0#32))) (cmpi .sle (wrapped X) (broadcastInDim S32x32x64x128x1 ![0, 1, 2, 3, 4] bcast_S1x1x1x1x1_S32x32x64x128x1_0_1_2_3_4 (broadcastInDim S1x1x1x1x1 ![4] bcast_S1_S1x1x1x1x1_4 (constantI S1 32 127#32))))) (constantI S_ 1 1#1) reducesTo_S32x32x64x128x1_S32x32x64x128_d4 h_S_

/-- What is taken from an image array along its last axis. -/
def taken (A : FVec F S32x32x1x128x128 .f32) (X : IVec S32x32x64x128 32) : FVec F S32x32x64x128 .f32 :=
  select (okMask X) (Host.gather gather_S32x32x64x128_S32x32x64x128x1_S32x32x64x128_n_3_012_012_3_4_1111 (img A) (wrapped X)) (broadcastInDim S32x32x64x128 ![] bcast_S_S32x32x64x128 (constant S_ .f32 0x7FC00000#32))

/-- The squared differences. -/
def squares (A T : FVec F S32x32x1x128x128 .f32) (X : IVec S32x32x64x128 32) : FVec F S32x32x64x128 .f32 :=
  mulf (subf (taken A X) (taken T X)) (subf (taken A X) (taken T X))

/-- The reference's result: the sum of the squared differences, divided by their number. -/
def refOut (A T : FVec F S32x32x1x128x128 .f32) (X : IVec S32x32x64x128 32) : FVec F S_ .f32 :=
  Host.divf (Host.reduceAdd (squares A T X) (constant S_ .f32 0x00000000#32) reducesTo_S32x32x64x128_S_d0_1_2_3 h_S_) (constant S_ .f32 0x4B000000#32)

set_option maxRecDepth 8192 in
/-- What the reference's run leaves in its result is `refOut` of its arguments. -/
theorem res_eq (m : (ℓ : Loc nD τ sig) → Buf (Elt F) ℓ) (c : Dev nD) :
    Value.res_main_v11 m c = refOut (m ((c.tc : Thread nD τ).loc main_arg0)) (m ((c.tc : Thread nD τ).loc main_arg1)) (m ((c.tc : Thread nD τ).loc main_arg2)) := by
  unfold Value.res_main_v11
  rfl

/-- The element of an image array that index `(b, n, i, j)` takes: row `q` of channel `i` of image `(b, n)`. -/
def pix (b n : Fin 32) (q : Fin 128) (i : Fin 64) : S32x32x1x128x128.Idx :=
  ix5 b n (0 : Fin 1) q (⟨i.val, by omega⟩ : Fin 128)

/-- The reference's view of an image array, read at an index. -/
theorem img_apply (A : FVec F S32x32x1x128x128 .f32) (b n : Fin 32) (i : Fin 64) (q : Fin 128) :
    img A (ix4 b n i q) = A (pix b n q i) := by
  unfold img
  have e1 : ∀ x : FVec F S32x32x128x128 .f32, extractStridedSlice S32x32x64x128 ![0, 0, 0, 0] x slices_S32x32x128x128_S32x32x64x128_0_0_0_0 (ix4 b n i q)
      = x (ix4 b n (⟨i.val, by omega⟩ : Fin 128) q) := fun x => by
    unfold extractStridedSlice
    refine congrArg x (funext fun a => Fin.ext ?_)
    match a with
    | ⟨0, _⟩ => exact Nat.zero_add _
    | ⟨1, _⟩ => exact Nat.zero_add _
    | ⟨2, _⟩ => exact Nat.zero_add _
    | ⟨3, _⟩ => exact Nat.zero_add _
  rw [e1, transpose_apply _ _ _ _ (ix4 b n q (⟨i.val, by omega⟩ : Fin 128)) (fun c => match c with
    | ⟨0, _⟩ => rfl
    | ⟨1, _⟩ => rfl
    | ⟨2, _⟩ => rfl
    | ⟨3, _⟩ => rfl)]
  refine shapeCast_apply _ _ _ _ ?_
  rw [Shape.rowMajor_val_four, Shape.rowMajor_val_five]
  show (((b.val * 32 + n.val) * 1 + 0) * 128 + q.val) * 128 + i.val = ((b.val * 32 + n.val) * 128 + q.val) * 128 + i.val
  omega

/-- An index below 128 is not negative, so it is not wrapped. -/
theorem wrap_id (x : BitVec 32) (hx : x.toNat < 128) : Scalar.select (IntOp.cmpi .slt x 0#32) (IntOp.addi x 128#32) x = x := by
  have e0 : (0#32 : BitVec 32).toInt = 0 := by decide
  have : ¬ IntOp.cmpi .slt x 0#32 = 1#1 := fun h => by
    have := IntOp.cmpi_slt.1 h
    rw [e0, BitVec.toInt_eq_toNat_of_lt (by omega)] at this
    omega
  exact if_neg this

/-- The wrapped indices are the indices, read through the added unit axis. -/
theorem wrapped_eq (X : IVec S32x32x64x128 32) (hX : ∀ y, (X y).toNat < 128) (z : S32x32x64x128x1.Idx) :
    wrapped X z = X (Shape.reshapeEquiv shapeCasts_S32x32x64x128_S32x32x64x128x1 z) :=
  wrap_id _ (hX _)

/-- Every index is in range. -/
theorem okMask_eq (X : IVec S32x32x64x128 32) (hX : ∀ y, (X y).toNat < 128) (y : S32x32x64x128.Idx) : okMask X y = 1#1 := by
  unfold okMask
  refine Host.reduce_andi_one _ _ _ _ _ rfl fun z => ?_
  show IntOp.andi (IntOp.cmpi .sge (wrapped X z) 0#32) (IntOp.cmpi .sle (wrapped X z) 127#32) = 1#1
  rw [wrapped_eq X hX]
  have h := hX (Shape.reshapeEquiv shapeCasts_S32x32x64x128_S32x32x64x128x1 z)
  have e0 : (0#32 : BitVec 32).toInt = 0 := by decide
  have e1 : (127#32 : BitVec 32).toInt = 127 := by decide
  refine IntOp.andi_eq_one.2 ⟨IntOp.cmpi_sge.2 ?_, IntOp.cmpi_sle.2 ?_⟩
  · rw [e0, BitVec.toInt_eq_toNat_of_lt (by omega)]; omega
  · rw [e1, BitVec.toInt_eq_toNat_of_lt (by omega)]; omega

/-- The gather reads each position's row at the index of that position, clamped. -/
theorem gather_apply (x : FVec F S32x32x64x128 .f32) (W : IVec S32x32x64x128x1 32) (b n : Fin 32) (i : Fin 64) (j : Fin 128) :
    Host.gather gather_S32x32x64x128_S32x32x64x128x1_S32x32x64x128_n_3_012_012_3_4_1111 x W (ix4 b n i j)
      = x (ix4 b n i (⟨min (W (ix5 b n i j (0 : Fin 1))).toInt.toNat 127, by omega⟩ : Fin 128)) := by
  unfold Host.gather
  refine congrArg x (funext fun a => Fin.ext ?_)
  let D := gather_S32x32x64x128_S32x32x64x128x1_S32x32x64x128_n_3_012_012_3_4_1111
  show D.start (ix4 b n i j) W a + D.batchCoord (ix4 b n i j) a + D.offCoord (ix4 b n i j) a = _
  have m0 : (0 : Fin 4) ∈ D.operandBatchingDims := show (0 : Fin 4) ∈ [0, 1, 2] by decide
  have m1 : (1 : Fin 4) ∈ D.operandBatchingDims := show (1 : Fin 4) ∈ [0, 1, 2] by decide
  have m2 : (2 : Fin 4) ∈ D.operandBatchingDims := show (2 : Fin 4) ∈ [0, 1, 2] by decide
  have n3 : (3 : Fin 4) ∉ D.operandBatchingDims := show (3 : Fin 4) ∉ [0, 1, 2] by decide
  have m3 : (3 : Fin 4) ∈ D.startIndexMap := show (3 : Fin 4) ∈ [3] by decide
  have c3 : (3 : Fin 4) ∈ D.collapsedSliceDims := m3
  have hoff : ∀ a : Fin 4, a ∈ D.operandBatchingDims → D.offCoord (ix4 b n i j) a = 0 := fun a h =>
    GatherDims.offCoord_eq_zero _ _ _ fun h' => ((GatherDims.mem_sKept _ _).mp h').2 h
  have hb : ∀ a : Fin 4, a ∈ D.operandBatchingDims → D.start (ix4 b n i j) W a = 0 := fun a h => D.start_batching _ _ _ h
  have ha : a = 0 ∨ a = 1 ∨ a = 2 ∨ a = 3 := by
    match a with
    | ⟨0, _⟩ => exact .inl rfl
    | ⟨1, _⟩ => exact .inr (.inl rfl)
    | ⟨2, _⟩ => exact .inr (.inr (.inl rfl))
    | ⟨3, _⟩ => exact .inr (.inr (.inr rfl))
  rcases ha with rfl | rfl | rfl | rfl
  · rw [hb _ m0, hoff _ m0, Nat.zero_add, Nat.add_zero]; unfold GatherDims.batchCoord; rw [dif_pos m0]; rfl
  · rw [hb _ m1, hoff _ m1, Nat.zero_add, Nat.add_zero]; unfold GatherDims.batchCoord; rw [dif_pos m1]; rfl
  · rw [hb _ m2, hoff _ m2, Nat.zero_add, Nat.add_zero]; unfold GatherDims.batchCoord; rw [dif_pos m2]; rfl
  · rw [GatherDims.batchCoord_eq_zero _ _ _ n3,
      GatherDims.offCoord_eq_zero _ _ _ (fun h' => ((GatherDims.mem_sKept _ _).mp h').1 c3), Nat.add_zero]
    unfold GatherDims.start
    rw [dif_pos m3]
    have hsi : ∀ k, D.siIdx (ix4 b n i j) k = ix5 b n i j (0 : Fin 1) := fun k => by
      have hk : k.val = 0 := by have h := k.isLt; have e : D.startIndexMap.length = 1 := rfl; omega
      funext c
      refine Fin.ext ?_
      match c with
      | ⟨0, _⟩ => rfl
      | ⟨1, _⟩ => rfl
      | ⟨2, _⟩ => rfl
      | ⟨3, _⟩ => rfl
      | ⟨4, _⟩ => exact hk
    rw [hsi]
    rfl

/-- What the reference takes at `(b, n, i, j)`: row `X (b, n, i, j)` of channel `i` of image `(b, n)`. -/
theorem taken_apply (A : FVec F S32x32x1x128x128 .f32) (X : IVec S32x32x64x128 32) (hX : ∀ y, (X y).toNat < 128) (b n : Fin 32) (i : Fin 64) (j : Fin 128) :
    taken A X (ix4 b n i j) = A (pix b n ⟨(X (ix4 b n i j)).toNat, hX _⟩ i) := by
  have e : Shape.reshapeEquiv shapeCasts_S32x32x64x128_S32x32x64x128x1 (ix5 b n i j (0 : Fin 1)) = ix4 b n i j :=
    Shape.reshapeEquiv_eq_of_rowMajor _ (by
      rw [Shape.rowMajor_val_four, Shape.rowMajor_val_five]
      show ((b.val * 32 + n.val) * 64 + i.val) * 128 + j.val = (((b.val * 32 + n.val) * 64 + i.val) * 128 + j.val) * 1 + 0
      omega)
  have hx := hX (ix4 b n i j)
  unfold taken
  show Scalar.select (okMask X (ix4 b n i j)) (Host.gather _ (img A) (wrapped X) (ix4 b n i j)) _ = _
  rw [okMask_eq X hX, gather_apply, img_apply]
  refine (if_pos rfl).trans (congrArg (fun q => A (pix b n q i)) (Fin.ext ?_))
  show min (wrapped X (ix5 b n i j (0 : Fin 1))).toInt.toNat 127 = (X (ix4 b n i j)).toNat
  rw [wrapped_eq X hX, e, BitVec.toInt_eq_toNat_of_lt (by omega)]
  omega

end Cert.Proof.Ref

end
-- ==== Proof.Sums.lean ====
/-
  The two results are one sum. Each tile's lane holds the sum of the squared differences of its pairs, channels and
  every sixteenth position; all lanes of all tiles together hold each squared difference once. Over the extended reals
  addition commutes and associates, so the order does not matter.
-/
module

public import proofs.«01_k».proof.Proof.Main
public import proofs.«01_k».proof.Proof.RefValue
public import Idealize.ShloMosaic.Lib.Pipeline.ValueKit.Acc
public import Idealize.ShloMosaic.Lib.Pointwise.Index
public import Idealize.ShloMosaic.PureOps.Ideal.Laws

@[expose] public section

noncomputable section

namespace Cert.Proof

open Cert.KernelIdeal Cert.KernelIdeal.Gen
open Idealize.ShloMosaic Idealize.ShloMosaic.ValueIdx
open Finset (range)

/-- One squared difference: pair `p`, channel `i`, position `l`. -/
def term (A T : S1024x128x128.Idx → EReal) (X : S1024x64x128.Idx → BitVec 32) (p i l : ℕ) : EReal :=
  (A (at3 p (X (at3X p i l)).toNat i) - T (at3 p (X (at3X p i l)).toNat i)) * (A (at3 p (X (at3X p i l)).toNat i) - T (at3 p (X (at3X p i l)).toNat i))

/-- A channel adds the squares of its eight groups. -/
theorem chan_apply (g : ℕ → FVec Ideal S16 .f32) (acc : FVec Ideal S16 .f32) (y : S16.Idx) :
    (chan g acc y : EReal) = acc y + ∑ k ∈ range 8, (g k y : EReal) * g k y := by
  simp only [Finset.sum_range_succ, Finset.sum_range_zero, zero_add, ← add_assoc]
  rfl

/-- The first `n` channels add the squares of all their groups. -/
theorem chans_apply (g : ℕ → ℕ → FVec Ideal S16 .f32) (acc : FVec Ideal S16 .f32) (y : S16.Idx) :
    ∀ n, (chans g acc n y : EReal) = acc y + ∑ i ∈ range n, ∑ k ∈ range 8, (g i k y : EReal) * g i k y
  | 0 => (add_zero _).symm
  | n + 1 => by
    rw [Finset.sum_range_succ, ← add_assoc, ← chans_apply g acc y n]
    exact chan_apply _ _ _

/-- A tile's lane after its first `n` pairs: the sum of the squared differences of those pairs at the lane's positions. -/
theorem tileAcc_apply (A T : S1024x128x128.Idx → EReal) (X : S1024x64x128.Idx → BitVec 32) (base : ℕ) (y : S16.Idx) :
    ∀ n, (tileAcc (F := Ideal) A T X base n y : EReal)
      = ∑ p ∈ range n, ∑ i ∈ range 64, ∑ k ∈ range 8, term A T X (base + p) i (16 * k + (y 0).val)
  | 0 => Ideal.ofBits_zero_f32
  | n + 1 => by
    rw [Finset.sum_range_succ, ← tileAcc_apply A T X base y n]
    exact chans_apply _ _ _ _

/-- All lanes of all tiles together: every squared difference once. -/
theorem sum_outVal (A T : S1024x128x128.Idx → EReal) (X : S1024x64x128.Idx → BitVec 32) :
    ∑ y : S32x16.Idx, (outVal (F := Ideal) A T X y : EReal)
      = ∑ b ∈ range 32, ∑ n ∈ range 32, ∑ i ∈ range 64, ∑ j ∈ range 128, term A T X (32 * b + n) i j := by
  have e : ∀ (b : Fin 32) (l : Fin 16), (outVal (F := Ideal) A T X (ValueIdx.ix2 b l) : EReal)
      = ∑ p ∈ range 32, ∑ i ∈ range 64, ∑ k ∈ range 8, term A T X (32 * b.val + p) i (16 * k + l.val) := fun b l => tileAcc_apply A T X _ _ 32
  rw [ValueIdx.sum_idx2]
  simp only [e]
  rw [Fin.sum_univ_eq_sum_range (fun b => ∑ l : Fin 16, ∑ p ∈ range 32, ∑ i ∈ range 64, ∑ k ∈ range 8, term A T X (32 * b + p) i (16 * k + l.val)) 32]
  refine Finset.sum_congr rfl fun b _ => ?_
  rw [Fin.sum_univ_eq_sum_range (fun l => ∑ p ∈ range 32, ∑ i ∈ range 64, ∑ k ∈ range 8, term A T X (32 * b + p) i (16 * k + l)) 16,
    Finset.sum_comm]
  refine Finset.sum_congr rfl fun p _ => ?_
  rw [Finset.sum_comm]
  refine Finset.sum_congr rfl fun i _ => ?_
  rw [Finset.sum_comm, show (128 : ℕ) = 8 * 16 from rfl, Finset.sum_range_mul_split]
  exact Finset.sum_congr rfl fun k _ => Finset.sum_congr rfl fun l _ => by rw [Nat.mul_comm k 16]

/-- The row-major position of pair `p`, row `q`, column `j`. -/
theorem row_at3 (p q j : ℕ) : (S1024x128x128.rowMajor (at3 p q j)).val = (p % 1024 * 128 + q % 128) * 128 + j % 128 := by
  rw [Shape.rowMajor_val_three]; rfl

/-- The row-major position of row `q`, column `i` of image `(b, n)`. -/
theorem row_pix (b n : Fin 32) (q : Fin 128) (i : Fin 64) :
    (S32x32x1x128x128.rowMajor (Ref.pix b n q i)).val = (((b.val * 32 + n.val) * 1 + 0) * 128 + q.val) * 128 + i.val := by
  rw [Shape.rowMajor_val_five]; rfl

/-- Pair `32 b + n` of the flattened images stands where image `(b, n)` stood: the arithmetic of the two positions. -/
theorem pair_position (b n q i : ℕ) (hb : b < 32) (hn : n < 32) (hq : q < 128) (hi : i < 64) :
    (((b * 32 + n) * 1 + 0) * 128 + q) * 128 + i = ((32 * b + n) % 1024 * 128 + q % 128) * 128 + i % 128 := by
  rw [Nat.mod_eq_of_lt (by omega : 32 * b + n < 1024), Nat.mod_eq_of_lt hq, Nat.mod_eq_of_lt (by omega : i < 128)]
  ring

/-- A flattened image array read at pair `32 b + n` is the image array at `(b, n)`. -/
theorem flat_image (A : S32x32x1x128x128.Idx → EReal) (b n : Fin 32) (q : Fin 128) (i : Fin 64) :
    shapeCast S1024x128x128 A shapeCasts_S32x32x1x128x128_S1024x128x128 (at3 (32 * b.val + n.val) q.val i.val) = A (Ref.pix b n q i) :=
  shapeCast_apply (s := S32x32x1x128x128) (t := S1024x128x128) A _ _ _
    ((row_pix b n q i).trans ((pair_position _ _ _ _ b.isLt n.isLt q.isLt i.isLt).trans (row_at3 _ _ _).symm))

/-- The flattened index array read at pair `32 b + n` is the index array at `(b, n)`. -/
theorem flat_index (X : S32x32x64x128.Idx → BitVec 32) (b n : Fin 32) (i : Fin 64) (j : Fin 128) :
    shapeCast S1024x64x128 X shapeCasts_S32x32x64x128_S1024x64x128 (at3X (32 * b.val + n.val) i.val j.val) = X (ValueIdx.ix4 b n i j) := by
  refine shapeCast_apply _ _ _ _ ?_
  rw [Shape.rowMajor_val_four, Shape.rowMajor_val_three]
  show ((b.val * 32 + n.val) * 64 + i.val) * 128 + j.val
    = ((32 * b.val + n.val) % 1024 * 64 + i.val % 64) * 128 + j.val % 128
  omega

/-- A squared difference of two vectors, read at an index. -/
theorem sq_at (u v : FVec Ideal S32x32x64x128 .f32) (y : S32x32x64x128.Idx) :
    (mulf (subf u v) (subf u v) y : EReal) = ((u y : EReal) - v y) * ((u y : EReal) - v y) := rfl

/-- The reference's square, read at an index. -/
theorem squares_at (A T : S32x32x1x128x128.Idx → EReal) (X : S32x32x64x128.Idx → BitVec 32) (y : S32x32x64x128.Idx) {a t : EReal}
    (ha : Ref.taken (F := Ideal) A X y = a) (ht : Ref.taken (F := Ideal) T X y = t) :
    (Ref.squares (F := Ideal) A T X y : EReal) = (a - t) * (a - t) := by
  unfold Ref.squares
  generalize Ref.taken (F := Ideal) A X = u at *
  generalize Ref.taken (F := Ideal) T X = v at *
  subst ha ht
  exact sq_at u v y

/-- The kernel's square, over any three arrays whose elements read there are known. -/
theorem term_of {A T : S1024x128x128.Idx → EReal} {X : S1024x64x128.Idx → BitVec 32} {p i l x : ℕ} {a t : EReal}
    (hx : (X (at3X p i l)).toNat = x) (ha : A (at3 p x i) = a) (ht : T (at3 p x i) = t) : term A T X p i l = (a - t) * (a - t) := by
  unfold term
  rw [hx, ha, ht]

/-- The reference's square at `(b, n, i, j)` is the kernel's at pair `32 b + n`, channel `i`, position `j`. -/
theorem squares_apply (A T : S32x32x1x128x128.Idx → EReal) (X : S32x32x64x128.Idx → BitVec 32) (hX : ∀ y, (X y).toNat < 128) (b n : Fin 32) (i : Fin 64) (j : Fin 128) :
    (Ref.squares (F := Ideal) A T X (ValueIdx.ix4 b n i j) : EReal)
      = term (shapeCast S1024x128x128 A shapeCasts_S32x32x1x128x128_S1024x128x128) (shapeCast S1024x128x128 T shapeCasts_S32x32x1x128x128_S1024x128x128)
          (shapeCast S1024x64x128 X shapeCasts_S32x32x64x128_S1024x64x128) (32 * b.val + n.val) i.val j.val := by
  have hx := congrArg BitVec.toNat (flat_index X b n i j)
  exact (squares_at A T X _ (Ref.taken_apply (F := Ideal) A X hX b n i j) (Ref.taken_apply (F := Ideal) T X hX b n i j)).trans
    (term_of hx (flat_image A b n ⟨_, hX (ValueIdx.ix4 b n i j)⟩ i) (flat_image T b n ⟨_, hX (ValueIdx.ix4 b n i j)⟩ i)).symm

/-- The sum of the reference's squares is the sum of what the tiles leave. -/
theorem sum_squares (A T : S32x32x1x128x128.Idx → EReal) (X : S32x32x64x128.Idx → BitVec 32) (hX : ∀ y, (X y).toNat < 128) :
    ∑ y : S32x16.Idx, (outVal (F := Ideal) (shapeCast S1024x128x128 A shapeCasts_S32x32x1x128x128_S1024x128x128) (shapeCast S1024x128x128 T shapeCasts_S32x32x1x128x128_S1024x128x128)
        (shapeCast S1024x64x128 X shapeCasts_S32x32x64x128_S1024x64x128) y : EReal)
      = ∑ y : S32x32x64x128.Idx, (Ref.squares (F := Ideal) A T X y : EReal) := by
  rw [sum_outVal, sum_idx4]
  rw [← Fin.sum_univ_eq_sum_range]
  refine Finset.sum_congr rfl fun b _ => ?_
  rw [← Fin.sum_univ_eq_sum_range]
  refine Finset.sum_congr rfl fun n _ => ?_
  rw [← Fin.sum_univ_eq_sum_range]
  refine Finset.sum_congr rfl fun i _ => ?_
  rw [← Fin.sum_univ_eq_sum_range]
  exact Finset.sum_congr rfl fun j _ => (squares_apply A T X hX b n i j).symm

/-- Where every index is in range, the kernel's result is the reference's. -/
theorem result_eq (m : (ℓ : Loc nD τ sig) → Buf (Elt Ideal) ℓ) (hpre : PreOK m) (d : Dev nD) :
    (result (F := Ideal) m d : S_.Idx → EReal)
      = Ref.refOut (F := Ideal) (m ((SparseCore.T d).loc main_arg0)) (m ((SparseCore.T d).loc main_arg1)) (m ((SparseCore.T d).loc main_arg2)) := by
  have h := sum_squares (m ((SparseCore.T d).loc main_arg0)) (m ((SparseCore.T d).loc main_arg1)) (m ((SparseCore.T d).loc main_arg2)) (hpre d)
  have e : ∀ j, Ideal.hostReduceAdd reducesTo_S32x16_S_d0_1 (outVal (F := Ideal) (inA m d) (inT m d) (inX m d)) (Ideal.ofBits .f32 0x00000000#32) j
      = Ideal.hostReduceAdd Cert.ReferenceIdeal.Gen.reducesTo_S32x32x64x128_S_d0_1_2_3
          (Ref.squares (F := Ideal) (m ((SparseCore.T d).loc main_arg0)) (m ((SparseCore.T d).loc main_arg1)) (m ((SparseCore.T d).loc main_arg2)))
          (Ideal.ofBits .f32 0x00000000#32) j := fun j => by
    rw [Ideal.hostReduceAdd_total _ (fun b => b.elim0), Ideal.hostReduceAdd_total _ (fun b => b.elim0)]
    exact congrArg _ h
  unfold result Ref.refOut
  refine congrArg (fun x => Host.divf x _) (funext e)

end Cert.Proof

end
-- ==== Proof.lean ====
/-
  The five claims, assembled. The kernel's run is proved once, for any float values; the frame of the program and of its
  reading at the extended reals are both that run, and the value claim is that run with its result rewritten by the
  equation of the two sums.
-/
module

public import proofs.«01_k».proof.Defs
public import proofs.«01_k».proof.Proof.Gen.Kernel
public import proofs.«01_k».proof.Proof.Sums
public import Idealize.ShloMosaic.Adequacy
public import Idealize.ShloMosaic.Init

@[expose] public section

noncomputable section

namespace Cert.Proof

open Idealize.ShloMosaic Idealize.SL.Sem

/-- The kernel runs on the device's own floats: the arguments unchanged, every semaphore back at zero. -/
theorem frame_kernel : Cert.quiescent_Kernel := fun m ρ hpre =>
  (θ_run Cert.KernelIdeal.defs _ _).mono (fun _ h => ⟨fun c => ⟨(h.1 c).1, (h.1 c).2.1, (h.1 c).2.2.1⟩, h.2⟩)
    (run_main (F := Bits) m ρ fun d y => index_lt _ _ _ (hpre d) y)

/-- The kernel runs over the extended reals: the arguments unchanged, every semaphore back at zero. -/
theorem frame_kernel_ideal : Cert.quiescent_KernelIdeal := fun m ρ hpre =>
  (θ_run Cert.KernelIdeal.defs _ _).mono (fun _ h => ⟨fun c => ⟨(h.1 c).1, (h.1 c).2.1, (h.1 c).2.2.1⟩, h.2⟩)
    (run_main (F := Ideal) m ρ fun d y => index_lt _ _ _ (hpre d) y)

/-- The reference runs from any memory: the arguments unchanged; it has no semaphore. -/
theorem reference_runs (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- The kernel and the reference over the extended reals, from equal arguments with every index in range, leave equal
    results. -/
theorem value : Cert.algebraic_KernelIdeal_ReferenceIdeal := by
  intro m ρ m' ρ' hpre hagree
  have hok : PreOK m := fun d y => index_lt _ _ _ (hpre d) y
  refine ⟨fun c => result (F := Ideal) m c, ?_, ?_⟩
  · exact (θ_run Cert.KernelIdeal.defs _ _).mono (fun _ h c => ⟨(h.1 c).2.2.2, (h.1 c).1, (h.1 c).2.1, (h.1 c).2.2.1⟩)
      (run_main (F := Ideal) m ρ hok)
  · refine (θ_run Cert.ReferenceIdeal.defs _ _).mono (fun _ h c => ⟨(h c).1.trans ?_, (h c).2⟩)
      (Cert.ReferenceIdeal.Value.run (F := Ideal) m' ρ')
    refine (Ref.res_eq m' c).trans ?_
    rw [(hagree c).1, (hagree c).2.1, (hagree c).2.2]
    exact (result_eq m hok c).symm

theorem claim : Cert.Claim :=
  ⟨Cert.Kernel.Gen.facts, Cert.KernelIdeal.Gen.facts, Cert.ReferenceIdeal.Gen.facts, Cert.Pre_in_range.Gen.facts,
    frame_kernel, frame_kernel_ideal, fun m ρ _ => reference_runs m ρ, fun m ρ _ => reference_runs m ρ, trivial, value⟩

end Cert.Proof

end
